-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096x2 : Shape := ⟨3, ![4096, 4096, 2]⟩
abbrev S64x5 : Shape := ⟨2, ![64, 5]⟩
abbrev S4096x4096x1 : Shape := ⟨3, ![4096, 4096, 1]⟩
abbrev S4096x4096 : Shape := ⟨2, ![4096, 4096]⟩
abbrev S512x512 : Shape := ⟨2, ![512, 512]⟩
abbrev S1x1 : Shape := ⟨2, ![1, 1]⟩

abbrev nBuf : Space → Nat
  | .hbm => 6
  | .vmem => 7
  | .smem => 1
  | _ => 0

abbrev bufTy : (tb : Table) → Fin (tcTables nBuf tb) → BufTy
  | .hbm, ⟨0, _⟩ => ⟨S4096x4096x2, .f32⟩
  | .hbm, ⟨1, _⟩ => ⟨S4096x4096x1, .f32⟩
  | .hbm, ⟨2, _⟩ => ⟨S4096x4096, .f32⟩
  | .hbm, ⟨3, _⟩ => ⟨S4096x4096x1, .f32⟩
  | .hbm, ⟨4, _⟩ => ⟨S4096x4096, .f32⟩
  | .hbm, ⟨5, _⟩ => ⟨S4096x4096, .i32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .i32⟩
  | .local _ .vmem, ⟨5, _⟩ => ⟨S512x512, .i32⟩
  | .local _ .vmem, ⟨6, _⟩ => ⟨S512x512, .i32⟩
  | .local _ .smem, ⟨0, _⟩ => ⟨S64x5, .i32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_v0 : Ref sig .tc := ⟨.hbm, 5, rfl⟩
abbrev main_call0_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_call0_c.idx], fun | 0 => main_call0_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1 : Index := 1#32
  ![v2.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v2 : Index := Scalar.indexCast arg0
  let c3 : Index := 3#32
  ![v2.toNat, 3]
def k0_off5 (i : grid0.Coords) : Fin 2 → Nat :=
  let arg0 : BitVec 32 := BitVec.ofNat 32 (i 0).val
  let v4 : Index := Scalar.indexCast arg0
  let c4 : Index := 4#32
  ![v4.toNat, 4]
def k0_cond1 (v5 : BitVec 32) : BitVec 1 :=
  let c0_i32 : BitVec 32 := 0#32
  let v6 : BitVec 1 := Scalar.cmpi .eq v5 c0_i32
  let v7 : BitVec 32 := Scalar.extui v6
  let c0_i32_0 : BitVec 32 := 0#32
  let v8 : BitVec 1 := Scalar.cmpi .ne v7 c0_i32_0
  v8

def k0_cond2 (v5 : BitVec 32) : BitVec 1 :=
  let c1_i32 : BitVec 32 := 1#32
  let v9 : BitVec 1 := Scalar.cmpi .eq v5 c1_i32
  let v10 : BitVec 32 := Scalar.extui v9
  let c0_i32_1 : BitVec 32 := 0#32
  let v11 : BitVec 1 := Scalar.cmpi .ne v10 c0_i32_1
  v11

def k0_cond3 (v5 : BitVec 32) : BitVec 1 :=
  let c2_i32 : BitVec 32 := 2#32
  let v12 : BitVec 1 := Scalar.cmpi .eq v5 c2_i32
  let v13 : BitVec 32 := Scalar.extui v12
  let c0_i32_2 : BitVec 32 := 0#32
  let v14 : BitVec 1 := Scalar.cmpi .ne v13 c0_i32_2
  v14

def cc0_transform_0 (k0_off1_inb : ∀ i : grid0.Coords, ∀ a, (k0_off1 i) a + S1x1.size a ≤ S64x5.size a) (numel1_S1x1 : S1x1.numel = 1) (k0_off2_inb : ∀ i : grid0.Coords, ∀ a, (k0_off2 i) a + S1x1.size a ≤ S64x5.size a) (pf : pre0.Contents (Elt F)) (i : grid0.Coords) : Fin 2 → Nat :=
  let arg0 : BitVec 32 := BitVec.ofNat 32 (i 0).val
  let v0 : Index := Scalar.indexCast arg0
  let c0 : Index := 0#32
  let v1 : BitVec 32 := pf.at 0 (Rect.unit (s := S64x5) ![v0.toNat, 0] S1x1.size (k0_off1_inb i)) numel1_S1x1
  let v2 : Index := Scalar.indexCast arg0
  let c1 : Index := 1#32
  let v3 : BitVec 32 := pf.at 0 (Rect.unit (s := S64x5) ![v2.toNat, 1] S1x1.size (k0_off2_inb i)) numel1_S1x1
  let c0_i32 : BitVec 32 := 0#32
  ![v1.toNat, v3.toNat]

def cc0_transform_1 (k0_off1_inb : ∀ i : grid0.Coords, ∀ a, (k0_off1 i) a + S1x1.size a ≤ S64x5.size a) (numel1_S1x1 : S1x1.numel = 1) (k0_off2_inb : ∀ i : grid0.Coords, ∀ a, (k0_off2 i) a + S1x1.size a ≤ S64x5.size a) (pf : pre0.Contents (Elt F)) (i : grid0.Coords) : Fin 2 → Nat :=
  let arg0 : BitVec 32 := BitVec.ofNat 32 (i 0).val
  let v0 : Index := Scalar.indexCast arg0
  let c0 : Index := 0#32
  let v1 : BitVec 32 := pf.at 0 (Rect.unit (s := S64x5) ![v0.toNat, 0] S1x1.size (k0_off1_inb i)) numel1_S1x1
  let v2 : Index := Scalar.indexCast arg0
  let c1 : Index := 1#32
  let v3 : BitVec 32 := pf.at 0 (Rect.unit (s := S64x5) ![v2.toNat, 1] S1x1.size (k0_off2_inb i)) numel1_S1x1
  let c0_i32 : BitVec 32 := 0#32
  ![v1.toNat, v3.toNat]

def cc0_transform_2 (k0_off3_inb : ∀ i : grid0.Coords, ∀ a, (k0_off3 i) a + S1x1.size a ≤ S64x5.size a) (numel1_S1x1 : S1x1.numel = 1) (k0_off4_inb : ∀ i : grid0.Coords, ∀ a, (k0_off4 i) a + S1x1.size a ≤ S64x5.size a) (pf : pre0.Contents (Elt F)) (i : grid0.Coords) : Fin 2 → Nat :=
  let arg0 : BitVec 32 := BitVec.ofNat 32 (i 0).val
  let v0 : Index := Scalar.indexCast arg0
  let c2 : Index := 2#32
  let v1 : BitVec 32 := pf.at 0 (Rect.unit (s := S64x5) ![v0.toNat, 2] S1x1.size (k0_off3_inb i)) numel1_S1x1
  let v2 : Index := Scalar.indexCast arg0
  let c3 : Index := 3#32
  let v3 : BitVec 32 := pf.at 0 (Rect.unit (s := S64x5) ![v2.toNat, 3] S1x1.size (k0_off4_inb i)) numel1_S1x1
  let c0_i32 : BitVec 32 := 0#32
  ![v1.toNat, v3.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x4096x2 : Shape := ⟨3, ![4096, 4096, 2]⟩
abbrev S_ : Shape := ⟨0, ![]⟩
abbrev S4096x4096 : Shape := ⟨2, ![4096, 4096]⟩
abbrev S4096x4096x1 : Shape := ⟨3, ![4096, 4096, 1]⟩
abbrev S1 : Shape := ⟨1, ![1]⟩
abbrev S2 : Shape := ⟨1, ![2]⟩
abbrev S1x1 : Shape := ⟨2, ![1, 1]⟩

abbrev nBuf : Space → Nat
  | .hbm => 302
  | .vmem => 0
  | .smem => 0
  | _ => 0

abbrev hbmTy0_0 (i : Nat) : BufTy := match i % 128 with
  | 0 => ⟨S4096x4096x2, .f32⟩
  | 1 => ⟨S_, .f32⟩
  | 2 => ⟨S4096x4096, .f32⟩
  | 3 => ⟨S4096x4096x1, .f32⟩
  | 4 => ⟨S4096x4096, .f32⟩
  | 5 => ⟨S4096x4096, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S_, .f32⟩
  | 19 => ⟨S_, .f32⟩
  | 20 => ⟨S1x1, .f32⟩
  | 21 => ⟨S1x1, .f32⟩
  | 22 => ⟨S1, .i32⟩
  | 23 => ⟨S_, .i32⟩
  | 24 => ⟨S1, .i32⟩
  | 25 => ⟨S_, .i32⟩
  | 26 => ⟨S4096x4096, .i64⟩
  | 27 => ⟨S4096x4096, .i64⟩
  | 28 => ⟨S_, .i64⟩
  | 29 => ⟨S4096x4096, .i64⟩
  | 30 => ⟨S4096x4096, .i64⟩
  | 31 => ⟨S_, .i64⟩
  | 32 => ⟨S4096x4096, .i64⟩
  | 33 => ⟨S4096x4096, .i64⟩
  | 34 => ⟨S4096x4096, .i64⟩
  | 35 => ⟨S_, .i64⟩
  | 36 => ⟨S4096x4096, .i64⟩
  | 37 => ⟨S4096x4096, .i64⟩
  | 38 => ⟨S4096x4096, .i32⟩
  | 39 => ⟨S4096x4096, .i32⟩
  | 40 => ⟨S_, .i32⟩
  | 41 => ⟨S_, .i32⟩
  | 42 => ⟨S_, .i32⟩
  | 43 => ⟨S4096x4096, .i32⟩
  | 44 => ⟨S4096x4096, .i32⟩
  | 45 => ⟨S4096x4096, .i32⟩
  | 46 => ⟨S4096x4096, .i32⟩
  | 47 => ⟨S4096x4096, .i32⟩
  | 48 => ⟨S_, .i32⟩
  | 49 => ⟨S4096x4096, .i32⟩
  | 50 => ⟨S4096x4096, .i32⟩
  | 51 => ⟨S_, .i32⟩
  | 52 => ⟨S4096x4096, .i32⟩
  | 53 => ⟨S4096x4096, .i32⟩
  | 54 => ⟨S4096x4096, .i32⟩
  | 55 => ⟨S4096x4096, .i32⟩
  | 56 => ⟨S4096x4096, .i32⟩
  | 57 => ⟨S_, .i32⟩
  | 58 => ⟨S4096x4096, .i32⟩
  | 59 => ⟨S4096x4096, .i32⟩
  | 60 => ⟨S_, .i32⟩
  | 61 => ⟨S4096x4096, .i32⟩
  | 62 => ⟨S4096x4096, .i32⟩
  | 63 => ⟨S4096x4096, .i32⟩
  | 64 => ⟨S4096x4096, .i32⟩
  | 65 => ⟨S4096x4096, .i32⟩
  | 66 => ⟨S_, .i32⟩
  | 67 => ⟨S4096x4096, .i32⟩
  | 68 => ⟨S4096x4096, .i32⟩
  | 69 => ⟨S_, .i32⟩
  | 70 => ⟨S4096x4096, .i32⟩
  | 71 => ⟨S4096x4096, .i32⟩
  | 72 => ⟨S4096x4096, .i32⟩
  | 73 => ⟨S4096x4096, .i32⟩
  | 74 => ⟨S4096x4096, .i32⟩
  | 75 => ⟨S_, .i32⟩
  | 76 => ⟨S4096x4096, .i32⟩
  | 77 => ⟨S4096x4096, .i32⟩
  | 78 => ⟨S_, .i32⟩
  | 79 => ⟨S4096x4096, .i32⟩
  | 80 => ⟨S4096x4096, .i32⟩
  | 81 => ⟨S4096x4096, .i32⟩
  | 82 => ⟨S4096x4096, .i32⟩
  | 83 => ⟨S4096x4096, .i32⟩
  | 84 => ⟨S4096x4096, .i32⟩
  | 85 => ⟨S4096x4096, .i32⟩
  | 86 => ⟨S4096x4096, .i32⟩
  | 87 => ⟨S_, .i32⟩
  | 88 => ⟨S4096x4096, .i32⟩
  | 89 => ⟨S4096x4096, .i32⟩
  | 90 => ⟨S4096x4096, .i32⟩
  | 91 => ⟨S_, .i32⟩
  | 92 => ⟨S4096x4096, .i32⟩
  | 93 => ⟨S4096x4096, .i32⟩
  | 94 => ⟨S_, .i32⟩
  | 95 => ⟨S4096x4096, .i32⟩
  | 96 => ⟨S4096x4096, .i32⟩
  | 97 => ⟨S4096x4096, .i32⟩
  | 98 => ⟨S4096x4096, .i32⟩
  | 99 => ⟨S4096x4096, .i32⟩
  | 100 => ⟨S_, .i32⟩
  | 101 => ⟨S4096x4096, .i32⟩
  | 102 => ⟨S4096x4096, .i32⟩
  | 103 => ⟨S_, .i32⟩
  | 104 => ⟨S4096x4096, .i32⟩
  | 105 => ⟨S4096x4096, .i32⟩
  | 106 => ⟨S4096x4096, .i32⟩
  | 107 => ⟨S4096x4096, .i32⟩
  | 108 => ⟨S4096x4096, .i32⟩
  | 109 => ⟨S_, .i32⟩
  | 110 => ⟨S4096x4096, .i32⟩
  | 111 => ⟨S4096x4096, .i32⟩
  | 112 => ⟨S_, .i32⟩
  | 113 => ⟨S4096x4096, .i32⟩
  | 114 => ⟨S4096x4096, .i32⟩
  | 115 => ⟨S4096x4096, .i32⟩
  | 116 => ⟨S4096x4096, .i32⟩
  | 117 => ⟨S4096x4096, .i32⟩
  | 118 => ⟨S_, .i32⟩
  | 119 => ⟨S4096x4096, .i32⟩
  | 120 => ⟨S4096x4096, .i32⟩
  | 121 => ⟨S_, .i32⟩
  | 122 => ⟨S4096x4096, .i32⟩
  | 123 => ⟨S4096x4096, .i32⟩
  | 124 => ⟨S4096x4096, .i32⟩
  | 125 => ⟨S4096x4096, .i32⟩
  | 126 => ⟨S4096x4096, .i32⟩
  | 127 => ⟨S4096x4096, .i32⟩
  | _ => ⟨S4096x4096x2, .f32⟩

abbrev hbmTy0_1 (i : Nat) : BufTy := match i % 128 with
  | 0 => ⟨S4096x4096, .i32⟩
  | 1 => ⟨S4096x4096, .i32⟩
  | 2 => ⟨S_, .i32⟩
  | 3 => ⟨S4096x4096, .i32⟩
  | 4 => ⟨S4096x4096, .i32⟩
  | 5 => ⟨S4096x4096, .i32⟩
  | 6 => ⟨S_, .i32⟩
  | 7 => ⟨S4096x4096, .i32⟩
  | 8 => ⟨S4096x4096, .i32⟩
  | 9 => ⟨S_, .i32⟩
  | 10 => ⟨S4096x4096, .i32⟩
  | 11 => ⟨S4096x4096, .i32⟩
  | 12 => ⟨S4096x4096, .i32⟩
  | 13 => ⟨S4096x4096, .i32⟩
  | 14 => ⟨S4096x4096, .i32⟩
  | 15 => ⟨S_, .i32⟩
  | 16 => ⟨S4096x4096, .i32⟩
  | 17 => ⟨S4096x4096, .i32⟩
  | 18 => ⟨S_, .i32⟩
  | 19 => ⟨S4096x4096, .i32⟩
  | 20 => ⟨S4096x4096, .i32⟩
  | 21 => ⟨S4096x4096, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S4096x4096, .i32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S_, .i32⟩
  | 37 => ⟨S4096x4096, .i32⟩
  | 38 => ⟨S4096x4096, .i32⟩
  | 39 => ⟨S4096x4096, .i32⟩
  | 40 => ⟨S4096x4096, .i32⟩
  | 41 => ⟨S4096x4096, .i32⟩
  | 42 => ⟨S4096x4096, .i32⟩
  | 43 => ⟨S4096x4096, .i32⟩
  | 44 => ⟨S4096x4096, .i32⟩
  | 45 => ⟨S_, .i32⟩
  | 46 => ⟨S4096x4096, .i32⟩
  | 47 => ⟨S4096x4096, .i32⟩
  | 48 => ⟨S4096x4096, .i32⟩
  | 49 => ⟨S_, .i32⟩
  | 50 => ⟨S4096x4096, .i32⟩
  | 51 => ⟨S4096x4096, .i32⟩
  | 52 => ⟨S_, .i32⟩
  | 53 => ⟨S4096x4096, .i32⟩
  | 54 => ⟨S4096x4096, .i32⟩
  | 55 => ⟨S4096x4096, .i32⟩
  | 56 => ⟨S4096x4096, .i32⟩
  | 57 => ⟨S4096x4096, .i32⟩
  | 58 => ⟨S_, .i32⟩
  | 59 => ⟨S4096x4096, .i32⟩
  | 60 => ⟨S4096x4096, .i32⟩
  | 61 => ⟨S_, .i32⟩
  | 62 => ⟨S4096x4096, .i32⟩
  | 63 => ⟨S4096x4096, .i32⟩
  | 64 => ⟨S4096x4096, .i32⟩
  | 65 => ⟨S4096x4096, .i32⟩
  | 66 => ⟨S4096x4096, .i32⟩
  | 67 => ⟨S_, .i32⟩
  | 68 => ⟨S4096x4096, .i32⟩
  | 69 => ⟨S4096x4096, .i32⟩
  | 70 => ⟨S_, .i32⟩
  | 71 => ⟨S4096x4096, .i32⟩
  | 72 => ⟨S4096x4096, .i32⟩
  | 73 => ⟨S4096x4096, .i32⟩
  | 74 => ⟨S4096x4096, .i32⟩
  | 75 => ⟨S4096x4096, .i32⟩
  | 76 => ⟨S_, .i32⟩
  | 77 => ⟨S4096x4096, .i32⟩
  | 78 => ⟨S4096x4096, .i32⟩
  | 79 => ⟨S_, .i32⟩
  | 80 => ⟨S4096x4096, .i32⟩
  | 81 => ⟨S4096x4096, .i32⟩
  | 82 => ⟨S4096x4096, .i32⟩
  | 83 => ⟨S4096x4096, .i32⟩
  | 84 => ⟨S4096x4096, .i32⟩
  | 85 => ⟨S4096x4096, .i32⟩
  | 86 => ⟨S4096x4096, .i32⟩
  | 87 => ⟨S4096x4096, .i32⟩
  | 88 => ⟨S_, .i32⟩
  | 89 => ⟨S4096x4096, .i32⟩
  | 90 => ⟨S4096x4096, .i32⟩
  | 91 => ⟨S4096x4096, .i32⟩
  | 92 => ⟨S_, .i32⟩
  | 93 => ⟨S4096x4096, .i32⟩
  | 94 => ⟨S4096x4096, .i32⟩
  | 95 => ⟨S_, .i32⟩
  | 96 => ⟨S4096x4096, .i32⟩
  | 97 => ⟨S4096x4096, .i32⟩
  | 98 => ⟨S4096x4096, .i32⟩
  | 99 => ⟨S4096x4096, .i32⟩
  | 100 => ⟨S4096x4096, .i32⟩
  | 101 => ⟨S_, .i32⟩
  | 102 => ⟨S4096x4096, .i32⟩
  | 103 => ⟨S4096x4096, .i32⟩
  | 104 => ⟨S_, .i32⟩
  | 105 => ⟨S4096x4096, .i32⟩
  | 106 => ⟨S4096x4096, .i32⟩
  | 107 => ⟨S4096x4096, .i32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S_, .i32⟩
  | 114 => ⟨S4096x4096, .i32⟩
  | 115 => ⟨S4096x4096, .i32⟩
  | 116 => ⟨S4096x4096, .i32⟩
  | 117 => ⟨S4096x4096, .i32⟩
  | 118 => ⟨S4096x4096, .i32⟩
  | 119 => ⟨S_, .i32⟩
  | 120 => ⟨S4096x4096, .i32⟩
  | 121 => ⟨S4096x4096, .i32⟩
  | 122 => ⟨S_, .i32⟩
  | 123 => ⟨S4096x4096, .i32⟩
  | 124 => ⟨S4096x4096, .i32⟩
  | 125 => ⟨S4096x4096, .i32⟩
  | 126 => ⟨S4096x4096, .i32⟩
  | 127 => ⟨S4096x4096, .i32⟩
  | _ => ⟨S4096x4096x2, .f32⟩

abbrev hbmTy0_2 (i : Nat) : BufTy := match i % 128 with
  | 0 => ⟨S4096x4096, .i32⟩
  | 1 => ⟨S4096x4096, .i32⟩
  | 2 => ⟨S4096x4096, .i32⟩
  | 3 => ⟨S_, .i32⟩
  | 4 => ⟨S4096x4096, .i32⟩
  | 5 => ⟨S4096x4096, .i32⟩
  | 6 => ⟨S4096x4096, .i32⟩
  | 7 => ⟨S_, .i32⟩
  | 8 => ⟨S4096x4096, .i32⟩
  | 9 => ⟨S4096x4096, .i32⟩
  | 10 => ⟨S_, .i32⟩
  | 11 => ⟨S4096x4096, .i32⟩
  | 12 => ⟨S4096x4096, .i32⟩
  | 13 => ⟨S4096x4096, .f32⟩
  | 14 => ⟨S_, .f32⟩
  | 15 => ⟨S4096x4096, .f32⟩
  | 16 => ⟨S4096x4096, .f32⟩
  | 17 => ⟨S1x1, .f32⟩
  | 18 => ⟨S4096x4096, .f32⟩
  | 19 => ⟨S4096x4096, .f32⟩
  | 20 => ⟨S4096x4096, .f32⟩
  | 21 => ⟨S4096x4096, .f32⟩
  | 22 => ⟨S4096x4096, .f32⟩
  | 23 => ⟨S4096x4096, .f32⟩
  | 24 => ⟨S4096x4096, .i1⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S4096x4096, .i32⟩
  | 31 => ⟨S4096x4096, .i1⟩
  | 32 => ⟨S_, .i32⟩
  | 33 => ⟨S4096x4096, .i32⟩
  | 34 => ⟨S4096x4096, .i32⟩
  | 35 => ⟨S4096x4096, .i32⟩
  | 36 => ⟨S_, .i32⟩
  | 37 => ⟨S4096x4096, .i32⟩
  | 38 => ⟨S4096x4096, .i32⟩
  | 39 => ⟨S4096x4096, .i32⟩
  | 40 => ⟨S4096x4096, .i1⟩
  | 41 => ⟨S_, .i32⟩
  | 42 => ⟨S4096x4096, .i32⟩
  | 43 => ⟨S4096x4096, .i32⟩
  | 44 => ⟨S4096x4096, .i32⟩
  | 45 => ⟨S4096x4096, .i32⟩
  | _ => ⟨S4096x4096x2, .f32⟩

abbrev hbmTy (i : Nat) : BufTy := match i / 128 with
  | 0 => hbmTy0_0 i
  | 1 => hbmTy0_1 i
  | 2 => hbmTy0_2 i
  | _ => ⟨S4096x4096x2, .f32⟩

abbrev bufTy : (tb : Table) → Fin (tcTables nBuf tb) → BufTy
  | .hbm, ⟨i, _⟩ => hbmTy i
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_c : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_c_1 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v19_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v19_1 : Ref sig .tc := ⟨.hbm, 261, rfl⟩
abbrev main_call0_v20 : Ref sig .tc := ⟨.hbm, 262, rfl⟩
abbrev main_call0_c_2 : Ref sig .tc := ⟨.hbm, 263, rfl⟩
abbrev main_call0_v21 : Ref sig .tc := ⟨.hbm, 264, rfl⟩
abbrev main_call0_v22 : Ref sig .tc := ⟨.hbm, 265, rfl⟩
abbrev main_call0_c_3 : Ref sig .tc := ⟨.hbm, 266, rfl⟩
abbrev main_call0_v23 : Ref sig .tc := ⟨.hbm, 267, rfl⟩
abbrev main_call0_v24 : Ref sig .tc := ⟨.hbm, 268, rfl⟩
abbrev main_call0_v25 : Ref sig .tc := ⟨.hbm, 269, rfl⟩
abbrev main_call0_cst : Ref sig .tc := ⟨.hbm, 270, rfl⟩
abbrev main_call0_v26 : Ref sig .tc := ⟨.hbm, 271, rfl⟩
abbrev main_call0_v27 : Ref sig .tc := ⟨.hbm, 272, rfl⟩
abbrev main_call0_v28 : Ref sig .tc := ⟨.hbm, 273, rfl⟩
abbrev main_call0_v29 : Ref sig .tc := ⟨.hbm, 274, rfl⟩
abbrev main_call0_v30 : Ref sig .tc := ⟨.hbm, 275, rfl⟩
abbrev main_call0_v31 : Ref sig .tc := ⟨.hbm, 276, rfl⟩
abbrev main_call0_v32 : Ref sig .tc := ⟨.hbm, 277, rfl⟩
abbrev main_call0_v33 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_call1_v0 : Ref sig .tc := ⟨.hbm, 282, rfl⟩
abbrev main_call1_c : Ref sig .tc := ⟨.hbm, 283, rfl⟩
abbrev main_call1_v1 : Ref sig .tc := ⟨.hbm, 284, rfl⟩
abbrev main_call1_v2 : Ref sig .tc := ⟨.hbm, 285, rfl⟩
abbrev main_call1_v3 : Ref sig .tc := ⟨.hbm, 286, rfl⟩
abbrev main_call1_v4 : Ref sig .tc := ⟨.hbm, 287, rfl⟩
abbrev main_call1_c_0 : Ref sig .tc := ⟨.hbm, 288, rfl⟩
abbrev main_call1_v5 : Ref sig .tc := ⟨.hbm, 289, rfl⟩
abbrev main_v14 : Ref sig .tc := ⟨.hbm, 290, rfl⟩
abbrev main_call2_v0 : Ref sig .tc := ⟨.hbm, 291, rfl⟩
abbrev main_call2_c : Ref sig .tc := ⟨.hbm, 292, rfl⟩
abbrev main_call2_v1 : Ref sig .tc := ⟨.hbm, 293, rfl⟩
abbrev main_call2_v2 : Ref sig .tc := ⟨.hbm, 294, rfl⟩
abbrev main_call2_v3 : Ref sig .tc := ⟨.hbm, 295, rfl⟩
abbrev main_call2_v4 : Ref sig .tc := ⟨.hbm, 296, rfl⟩
abbrev main_call2_c_0 : Ref sig .tc := ⟨.hbm, 297, rfl⟩
abbrev main_call2_v5 : Ref sig .tc := ⟨.hbm, 298, rfl⟩
abbrev main_v15 : Ref sig .tc := ⟨.hbm, 299, rfl⟩
abbrev main_v16 : Ref sig .tc := ⟨.hbm, 300, rfl⟩
abbrev main_v17 : Ref sig .tc := ⟨.hbm, 301, rfl⟩

abbrev nD : Nat := 1
abbrev τ : Topo := Topo.v7x

variable {F : FTy → Type} [FloatOps F]
-- ==== Proof.KernelIdeal.Table.lean ====
/- The kernel's table of tile pairs: what each of its words is, that every block it names lies inside the arrays, and
   the pattern its rows follow. -/
module

public import proofs.«01_k».proof.Proof.Gen.KernelIdeal.Launch
public import proofs.«01_k».proof.Proof.Gen.KernelIdeal.Skeleton
public import Idealize.ShloMosaic.Lib.Tactic

@[expose] public section

set_option maxRecDepth 16384

noncomputable section

namespace Cert.KernelIdeal.Sym

open Idealize.ShloMosaic Idealize.ShloMosaic.TcCoe Idealize.SL.Sem Cert.KernelIdeal.Gen

variable {F : FTy → Type} [FloatOps F]

/-- The word in row `n` and column `k` of the table. -/
def word (k n : ℕ) : BitVec 32 := if h : n * 5 + k < 320 then lit0 ⟨n * 5 + k, h⟩ else 0#32

/-- The table as the contents the launch reads. -/
def tbl : pre0.Contents (Elt F) := fun
  | 0 => fun i => lit0 (S64x5.rowMajor i)
  | ⟨_ + 1, h⟩ => absurd h (Nat.not_lt.2 (Nat.le_add_left _ _))

theorem tbl_zero : (tbl (F := F) 0) = fun i => lit0 (S64x5.rowMajor i) := rfl

/-- A grid point's coordinate is its number. -/
theorem coords_val : ∀ t : Fin grid0.N, (grid0.coords t 0).val = t.val := by decide +kernel

/-- The words the body reads first: the row of the tile of probabilities, … -/
theorem at_off1 (i : grid0.Coords) (h) :
    (tbl (F := F)).at 0 (Rect.unit (s := S64x5) (k0_off1 i) S1x1.size h) numel1_S1x1 = word 0 (i 0).val := by
  have key : ∀ (i : grid0.Coords) (h : ∀ a, (k0_off1 i) a + S1x1.size a ≤ S64x5.size a),
      lit0 (S64x5.rowMajor ((Rect.unit (s := S64x5) (k0_off1 i) S1x1.size h).emb
        (Shape.Idx.first (numel1_S1x1.symm ▸ Nat.one_pos)))) = word 0 (i 0).val := by decide +kernel
  exact key i h
/-- … its column, … -/
theorem at_off2 (i : grid0.Coords) (h) :
    (tbl (F := F)).at 0 (Rect.unit (s := S64x5) (k0_off2 i) S1x1.size h) numel1_S1x1 = word 1 (i 0).val := by
  have key : ∀ (i : grid0.Coords) (h : ∀ a, (k0_off2 i) a + S1x1.size a ≤ S64x5.size a),
      lit0 (S64x5.rowMajor ((Rect.unit (s := S64x5) (k0_off2 i) S1x1.size h).emb
        (Shape.Idx.first (numel1_S1x1.symm ▸ Nat.one_pos)))) = word 1 (i 0).val := by decide +kernel
  exact key i h
/-- … the row of the tile it writes, … -/
theorem at_off3 (i : grid0.Coords) (h) :
    (tbl (F := F)).at 0 (Rect.unit (s := S64x5) (k0_off3 i) S1x1.size h) numel1_S1x1 = word 2 (i 0).val := by
  have key : ∀ (i : grid0.Coords) (h : ∀ a, (k0_off3 i) a + S1x1.size a ≤ S64x5.size a),
      lit0 (S64x5.rowMajor ((Rect.unit (s := S64x5) (k0_off3 i) S1x1.size h).emb
        (Shape.Idx.first (numel1_S1x1.symm ▸ Nat.one_pos)))) = word 2 (i 0).val := by decide +kernel
  exact key i h
/-- … its column, … -/
theorem at_off4 (i : grid0.Coords) (h) :
    (tbl (F := F)).at 0 (Rect.unit (s := S64x5) (k0_off4 i) S1x1.size h) numel1_S1x1 = word 3 (i 0).val := by
  have key : ∀ (i : grid0.Coords) (h : ∀ a, (k0_off4 i) a + S1x1.size a ≤ S64x5.size a),
      lit0 (S64x5.rowMajor ((Rect.unit (s := S64x5) (k0_off4 i) S1x1.size h).emb
        (Shape.Idx.first (numel1_S1x1.symm ▸ Nat.one_pos)))) = word 3 (i 0).val := by decide +kernel
  exact key i h
/-- … and what to do there. -/
theorem at_off5 (i : grid0.Coords) (h) :
    (tbl (F := F)).at 0 (Rect.unit (s := S64x5) (k0_off5 i) S1x1.size h) numel1_S1x1 = word 4 (i 0).val := by
  have key : ∀ (i : grid0.Coords) (h : ∀ a, (k0_off5 i) a + S1x1.size a ≤ S64x5.size a),
      lit0 (S64x5.rowMajor ((Rect.unit (s := S64x5) (k0_off5 i) S1x1.size h).emb
        (Shape.Idx.first (numel1_S1x1.symm ▸ Nat.one_pos)))) = word 4 (i 0).val := by decide +kernel
  exact key i h

/-- The first window's block at a point. -/
theorem tr0 (i : grid0.Coords) : cc0_transform_0 Facts₀.k0_off1_inb numel1_S1x1 Facts₀.k0_off2_inb (tbl (F := F)) i
    = ![(word 0 (i 0).val).toNat, (word 1 (i 0).val).toNat] := by
  have h1 := at_off1 (F := F) i (Facts₀.k0_off1_inb i)
  have h2 := at_off2 (F := F) i (Facts₀.k0_off2_inb i)
  exact congrArg₂ (fun a b : BitVec 32 => ![a.toNat, b.toNat]) h1 h2
/-- The second window's. -/
theorem tr1 (i : grid0.Coords) : cc0_transform_1 Facts₀.k0_off1_inb numel1_S1x1 Facts₀.k0_off2_inb (tbl (F := F)) i
    = ![(word 0 (i 0).val).toNat, (word 1 (i 0).val).toNat] := tr0 (F := F) i
/-- The result's. -/
theorem tr2 (i : grid0.Coords) : cc0_transform_2 Facts₀.k0_off3_inb numel1_S1x1 Facts₀.k0_off4_inb (tbl (F := F)) i
    = ![(word 2 (i 0).val).toNat, (word 3 (i 0).val).toNat] := by
  have h1 := at_off3 (F := F) i (Facts₀.k0_off3_inb i)
  have h2 := at_off4 (F := F) i (Facts₀.k0_off4_inb i)
  exact congrArg₂ (fun a b : BitVec 32 => ![a.toNat, b.toNat]) h1 h2

/-- Every word the table gives for a block is below eight. -/
theorem word_lt : ∀ n : Fin 64, ((word 0 n.val).toNat < 8 ∧ (word 1 n.val).toNat < 8) ∧ (word 2 n.val).toNat < 8 ∧ (word 3 n.val).toNat < 8 := by
  decide +kernel

/-- A block with both indices below eight is inside a 4096 by 4096 array cut into blocks of 512. -/
theorem blk_in {a b : ℕ} (ha : a < 8) (hb : b < 8) : ∀ k, (![a, b] k + 1) * S512x512.size k ≤ S4096x4096.size k := by
  intro k; fin_cases k
  · show (a + 1) * 512 ≤ 4096; omega
  · show (b + 1) * 512 ≤ 4096; omega

/-- The table's blocks all lie inside the arrays. -/
theorem tbl_ok : ok0 (F := F) tbl := by
  refine ⟨fun i => ⟨?_, Or.inl rfl⟩, fun i => ⟨?_, Or.inl rfl⟩, fun i => ⟨?_, Or.inl rfl⟩⟩
  · rw [tr0]; exact blk_in (word_lt (i 0)).1.1 (word_lt (i 0)).1.2
  · rw [tr1]; exact blk_in (word_lt (i 0)).1.1 (word_lt (i 0)).1.2
  · rw [tr2]; exact blk_in (word_lt (i 0)).2.1 (word_lt (i 0)).2.2

/-- What a row's last word says: 0, 1 or 2. -/
theorem mode_cases : ∀ n : Fin 64, word 4 n.val = 0#32 ∨ word 4 n.val = 1#32 ∨ word 4 n.val = 2#32 := by decide +kernel

/-- A row that says 1 comes after a row that says 0 and names the same tile of probabilities; it writes that tile's mirror
    image. -/
theorem mode_one : ∀ n : Fin 64, word 4 n.val = 1#32 → n.val ≠ 0 ∧ word 4 (n.val - 1) = 0#32
    ∧ word 0 (n.val - 1) = word 0 n.val ∧ word 1 (n.val - 1) = word 1 n.val
    ∧ word 2 n.val = word 1 n.val ∧ word 3 n.val = word 0 n.val ∧ (word 0 n.val).toNat < (word 1 n.val).toNat := by decide +kernel
/-- A row that says 0 names a tile above the diagonal and writes it. -/
theorem mode_zero : ∀ n : Fin 64, word 4 n.val = 0#32 → word 2 n.val = word 0 n.val ∧ word 3 n.val = word 1 n.val
    ∧ (word 0 n.val).toNat < (word 1 n.val).toNat := by decide +kernel
/-- A row that says 2 names a tile on the diagonal and writes it. -/
theorem mode_two : ∀ n : Fin 64, word 4 n.val = 2#32 → word 2 n.val = word 0 n.val ∧ word 3 n.val = word 1 n.val
    ∧ word 1 n.val = word 0 n.val := by decide +kernel
/-- Every tile of the result is written by some row. -/
theorem tile_hit : ∀ a b : Fin 8, ∃ n : Fin 64, (word 2 n.val).toNat = a.val ∧ (word 3 n.val).toNat = b.val := by decide +kernel

/-- The body's three conditions, of the word that says what to do. -/
theorem cond1_iff (v : BitVec 32) : k0_cond1 v = 1#1 ↔ v = 0#32 := by
  have e : k0_cond1 v = if v = 0#32 then 1#1 else 0#1 := by
    show Scalar.cmpi .ne (Scalar.extui (Scalar.cmpi .eq v 0#32)) 0#32 = _
    by_cases h : v = 0#32
    · subst h; rw [if_pos rfl]; rfl
    · rw [if_neg h, show Scalar.cmpi .eq v 0#32 = 0#1 from by
        show BitVec.ofBool (v == _) = 0#1
        rw [beq_eq_false_iff_ne.mpr h]; rfl]; rfl
  rw [e]; split <;> simp_all
theorem cond2_iff (v : BitVec 32) : k0_cond2 v = 1#1 ↔ v = 1#32 := by
  have e : k0_cond2 v = if v = 1#32 then 1#1 else 0#1 := by
    show Scalar.cmpi .ne (Scalar.extui (Scalar.cmpi .eq v 1#32)) 0#32 = _
    by_cases h : v = 1#32
    · subst h; rw [if_pos rfl]; rfl
    · rw [if_neg h, show Scalar.cmpi .eq v 1#32 = 0#1 from by
        show BitVec.ofBool (v == _) = 0#1
        rw [beq_eq_false_iff_ne.mpr h]; rfl]; rfl
  rw [e]; split <;> simp_all
theorem cond3_iff (v : BitVec 32) : k0_cond3 v = 1#1 ↔ v = 2#32 := by
  have e : k0_cond3 v = if v = 2#32 then 1#1 else 0#1 := by
    show Scalar.cmpi .ne (Scalar.extui (Scalar.cmpi .eq v 2#32)) 0#32 = _
    by_cases h : v = 2#32
    · subst h; rw [if_pos rfl]; rfl
    · rw [if_neg h, show Scalar.cmpi .eq v 2#32 = 0#1 from by
        show BitVec.ofBool (v == _) = 0#1
        rw [beq_eq_false_iff_ne.mpr h]; rfl]; rfl
  rw [e]; split <;> simp_all

end Cert.KernelIdeal.Sym

end
-- ==== Proof.KernelIdeal.Tile.lean ====
/- What one grid point of the kernel does to its buffers, in each of the three cases its table word selects. -/
module

public import proofs.«01_k».proof.Proof.KernelIdeal.Table
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.Pipeline.Value

@[expose] public section

set_option maxRecDepth 16384

noncomputable section

namespace Cert.KernelIdeal.Sym

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The tile a point computes, by the cuts the body is printed in -/

/-- The two halves of the generator's state after the first cut (the second half's second term beside it), … -/
def s1a (a b : BitVec 32) : IVec S512x512 32 := k0_pay12 (F := F) a b
def s1b (a b : BitVec 32) : IVec S512x512 32 := k0_pay13 (F := F) a b
def s1c (a b : BitVec 32) : IVec S512x512 32 := k0_pay14 (F := F) a b
/-- … after the second, … -/
def s2a (a b : BitVec 32) : IVec S512x512 32 := k0_pay23 (s1a (F := F) a b) (s1b (F := F) a b) (s1c (F := F) a b)
def s2b (a b : BitVec 32) : IVec S512x512 32 := k0_pay24 (s1a (F := F) a b) (s1b (F := F) a b) (s1c (F := F) a b)
/-- … after the third, … -/
def s3a (a b : BitVec 32) : IVec S512x512 32 := k0_pay34 (s2a (F := F) a b) (s2b (F := F) a b)
def s3b (a b : BitVec 32) : IVec S512x512 32 := k0_pay35 (s2a (F := F) a b) (s2b (F := F) a b)
def s3c (a b : BitVec 32) : IVec S512x512 32 := k0_pay36 (s2a (F := F) a b) (s2b (F := F) a b)
/-- … and after the fourth. -/
def s4a (a b : BitVec 32) : IVec S512x512 32 := k0_pay47 (s3a (F := F) a b) (s3b (F := F) a b) (s3c (F := F) a b)
def s4b (a b : BitVec 32) : IVec S512x512 32 := k0_pay48 (s3a (F := F) a b) (s3b (F := F) a b) (s3c (F := F) a b)
def s4c (a b : BitVec 32) : IVec S512x512 32 := k0_pay49 (s3a (F := F) a b) (s3b (F := F) a b) (s3c (F := F) a b)

/-- The tile of samples at tile row `a` and tile column `b` from the two tiles of probabilities. -/
def tile (a b : BitVec 32) (x0 x1 : Vec F S512x512 .f32) : Vec F S512x512 .i32 :=
  k0_pay1 (k0_pay5 x0 x1) (s4a (F := F) a b) (s4b (F := F) a b) (s4c (F := F) a b)
/-- The tile on the diagonal: its upper triangle and that triangle's mirror image. -/
def diag (a b : BitVec 32) (x0 x1 : Vec F S512x512 .f32) : Vec F S512x512 .i32 :=
  k0_pay4 (k0_pay5 x0 x1) (s4a (F := F) a b) (s4b (F := F) a b) (s4c (F := F) a b)

/-! The diagonal case is printed with its own copy of the generator: cut by cut it is the other one's. -/

theorem c50 (x y : Vec F S512x512 .f32) : k0_pay50 x y = k0_pay5 x y := rfl
theorem c57 (x y : BitVec 32) : k0_pay57 (F := F) x y = k0_pay12 (F := F) x y := rfl
theorem c58 (x y : BitVec 32) : k0_pay58 (F := F) x y = k0_pay13 (F := F) x y := rfl
theorem c59 (x y : BitVec 32) : k0_pay59 (F := F) x y = k0_pay14 (F := F) x y := rfl
theorem c68 (x y z : IVec S512x512 32) : k0_pay68 x y z = k0_pay23 x y z := rfl
theorem c69 (x y z : IVec S512x512 32) : k0_pay69 x y z = k0_pay24 x y z := rfl
theorem c79 (x y : IVec S512x512 32) : k0_pay79 x y = k0_pay34 x y := rfl
theorem c80 (x y : IVec S512x512 32) : k0_pay80 x y = k0_pay35 x y := rfl
theorem c81 (x y : IVec S512x512 32) : k0_pay81 x y = k0_pay36 x y := rfl
theorem c92 (x y z : IVec S512x512 32) : k0_pay92 x y z = k0_pay47 x y z := rfl
theorem c93 (x y z : IVec S512x512 32) : k0_pay93 x y z = k0_pay48 x y z := rfl
theorem c94 (x y z : IVec S512x512 32) : k0_pay94 x y z = k0_pay49 x y z := rfl
/-- The diagonal tile as its own copy spells it. -/
def diag2 (a b : BitVec 32) (x0 x1 : Vec F S512x512 .f32) : Vec F S512x512 .i32 :=
  k0_pay4 (k0_pay50 x0 x1)
    (k0_pay92
      (k0_pay79 (k0_pay68 (k0_pay57 (F := F) a b) (k0_pay58 (F := F) a b) (k0_pay59 (F := F) a b)) (k0_pay69 (k0_pay57 (F := F) a b) (k0_pay58 (F := F) a b) (k0_pay59 (F := F) a b)))
      (k0_pay80 (k0_pay68 (k0_pay57 (F := F) a b) (k0_pay58 (F := F) a b) (k0_pay59 (F := F) a b)) (k0_pay69 (k0_pay57 (F := F) a b) (k0_pay58 (F := F) a b) (k0_pay59 (F := F) a b)))
      (k0_pay81 (k0_pay68 (k0_pay57 (F := F) a b) (k0_pay58 (F := F) a b) (k0_pay59 (F := F) a b)) (k0_pay69 (k0_pay57 (F := F) a b) (k0_pay58 (F := F) a b) (k0_pay59 (F := F) a b))))
    (k0_pay93
      (k0_pay79 (k0_pay68 (k0_pay57 (F := F) a b) (k0_pay58 (F := F) a b) (k0_pay59 (F := F) a b)) (k0_pay69 (k0_pay57 (F := F) a b) (k0_pay58 (F := F) a b) (k0_pay59 (F := F) a b)))
      (k0_pay80 (k0_pay68 (k0_pay57 (F := F) a b) (k0_pay58 (F := F) a b) (k0_pay59 (F := F) a b)) (k0_pay69 (k0_pay57 (F := F) a b) (k0_pay58 (F := F) a b) (k0_pay59 (F := F) a b)))
      (k0_pay81 (k0_pay68 (k0_pay57 (F := F) a b) (k0_pay58 (F := F) a b) (k0_pay59 (F := F) a b)) (k0_pay69 (k0_pay57 (F := F) a b) (k0_pay58 (F := F) a b) (k0_pay59 (F := F) a b))))
    (k0_pay94
      (k0_pay79 (k0_pay68 (k0_pay57 (F := F) a b) (k0_pay58 (F := F) a b) (k0_pay59 (F := F) a b)) (k0_pay69 (k0_pay57 (F := F) a b) (k0_pay58 (F := F) a b) (k0_pay59 (F := F) a b)))
      (k0_pay80 (k0_pay68 (k0_pay57 (F := F) a b) (k0_pay58 (F := F) a b) (k0_pay59 (F := F) a b)) (k0_pay69 (k0_pay57 (F := F) a b) (k0_pay58 (F := F) a b) (k0_pay59 (F := F) a b)))
      (k0_pay81 (k0_pay68 (k0_pay57 (F := F) a b) (k0_pay58 (F := F) a b) (k0_pay59 (F := F) a b)) (k0_pay69 (k0_pay57 (F := F) a b) (k0_pay58 (F := F) a b) (k0_pay59 (F := F) a b))))
/-- It is the tile the first copy gives. -/
theorem diag2_eq (a b : BitVec 32) (x0 x1 : Vec F S512x512 .f32) : diag2 a b x0 x1 = diag a b x0 x1 := by
  unfold diag2 diag
  simp only [c50, c57, c58, c59, c68, c69, c79, c80, c81, c92, c93, c94]
  rfl
/-- The kept copy is the tile written. -/
theorem c2 (x) (a b c : IVec S512x512 32) : k0_pay2 (F := F) x a b c = k0_pay1 x a b c := by
  unfold k0_pay2; exact shapeCast_self _ _

/-- What a point whose last word is `w` leaves in the result's buffer, … -/
def newOut (w a b : BitVec 32) (x0 x1 : Vec F S512x512 .f32) (xs : Vec F S512x512 .i32) : Vec F S512x512 .i32 :=
  if w = 0#32 then tile a b x0 x1 else if w = 1#32 then k0_pay3 (F := F) xs else diag a b x0 x1
/-- … and in the kept copy. -/
def newScr (w a b : BitVec 32) (x0 x1 : Vec F S512x512 .f32) (xs : Vec F S512x512 .i32) : Vec F S512x512 .i32 :=
  if w = 0#32 then tile a b x0 x1 else xs

/-- One whole store into a staging buffer, read back. -/
theorem read_whole_store (M : Memref sig .tc .vmem S512x512 .i32) (f : M.view.ref.ty.Contents (Elt F))
    (w : Vec F S512x512 .i32) (h) :
    M.view.read (Elt F) (M.view.writes (Elt F) f [⟨Rect.unit (s := S512x512) ![0, 0] S512x512.size h, w⟩]) = w := by
  funext y
  exact View.read_writes_cons_unit_of_mem _ _ (off' := ![0, 0]) h w [] y y rfl (fun a => by fin_cases a <;> exact (Nat.zero_add _).symm)

/-- A whole load of a buffer is what the buffer reads. -/
theorem readAt_whole {e : EltTy} (M : Memref sig .tc .vmem S512x512 e) (f : M.view.ref.ty.Contents (Elt F)) (h) :
    M.view.readAt (Elt F) (Rect.unit (s := S512x512) ![0, 0] S512x512.size h).toLoadRect f = M.view.read (Elt F) f := by
  funext j
  rw [View.readAt_apply]
  congr 1
  funext a
  apply Fin.ext
  fin_cases a <;> simp [Rect.unit]

/-- What the result's buffer reads after the body's three conditional stores. -/
theorem out_read (M : Memref sig .tc .vmem S512x512 .i32) (f : M.view.ref.ty.Contents (Elt F)) (w : BitVec 32)
    (hw : w = 0#32 ∨ w = 1#32 ∨ w = 2#32) (p q r : Vec F S512x512 .i32) (h) :
    M.view.read (Elt F)
      (if hc : k0_cond3 w = 1#1 then
        M.view.writes (Elt F)
          (if hc : k0_cond2 w = 1#1 then
            M.view.writes (Elt F)
              (if hc : k0_cond1 w = 1#1 then M.view.writes (Elt F) f [⟨Rect.unit (s := S512x512) ![0, 0] S512x512.size h, p⟩] else f)
              [⟨Rect.unit (s := S512x512) ![0, 0] S512x512.size h, q⟩]
          else
            if hc : k0_cond1 w = 1#1 then M.view.writes (Elt F) f [⟨Rect.unit (s := S512x512) ![0, 0] S512x512.size h, p⟩] else f)
          [⟨Rect.unit (s := S512x512) ![0, 0] S512x512.size h, r⟩]
      else
        if hc : k0_cond2 w = 1#1 then
          M.view.writes (Elt F)
            (if hc : k0_cond1 w = 1#1 then M.view.writes (Elt F) f [⟨Rect.unit (s := S512x512) ![0, 0] S512x512.size h, p⟩] else f)
            [⟨Rect.unit (s := S512x512) ![0, 0] S512x512.size h, q⟩]
        else
          if hc : k0_cond1 w = 1#1 then M.view.writes (Elt F) f [⟨Rect.unit (s := S512x512) ![0, 0] S512x512.size h, p⟩] else f)
    = if w = 0#32 then p else if w = 1#32 then q else r := by
  rcases hw with rfl | rfl | rfl
  · rw [dif_neg (by decide), dif_neg (by decide), dif_pos (by decide), read_whole_store, if_pos rfl]
  · rw [dif_neg (by decide), dif_pos (by decide), read_whole_store, if_neg (by decide), if_pos rfl]
  · rw [dif_pos (by decide), read_whole_store, if_neg (by decide), if_neg (by decide)]

/-- What the kept copy's buffer reads after the body's conditional store. -/
theorem scr_read (M : Memref sig .tc .vmem S512x512 .i32) (f : M.view.ref.ty.Contents (Elt F)) (w : BitVec 32) (p : Vec F S512x512 .i32) (h) :
    M.view.read (Elt F)
      (if hc : k0_cond1 w = 1#1 then M.view.writes (Elt F) f [⟨Rect.unit (s := S512x512) ![0, 0] S512x512.size h, p⟩] else f)
    = if w = 0#32 then p else M.view.read (Elt F) f := by
  by_cases hw : w = 0#32
  · rw [dif_pos ((cond1_iff _).2 hw), read_whole_store, if_pos hw]
  · rw [dif_neg (fun h => hw ((cond1_iff _).1 h)), if_neg hw]

/-! ## The table as the body is handed it -/

abbrev tbM : Memref sig .tc .smem S64x5 .i32 := Memref.whole main_call0_c
abbrev htbM : tbM.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl (F := F)) c : sProp 𝕄) = iprop(tbPt c tbM (tbl (F := F) 0)) := by
  unfold Pipeline.ΦT Pipeline.prefHeld
  rw [show (Finset.univ : Finset (Fin 1)) = {(0 : Fin 1)} from by decide, bigSep_singleton]
  rfl

abbrev scM : Memref sig .tc .vmem S512x512 .i32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Sym

end
-- ==== Proof.KernelIdeal.Run.lean ====
/- The body at any grid point, run once: its three conditional parts by the word the point's row of the table ends in. -/
module

public import proofs.«01_k».proof.Proof.KernelIdeal.Tile

@[expose] public section

set_option maxRecDepth 16384

noncomputable section

namespace Cert.KernelIdeal.Sym

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 400000 in
/-- THE RUN of the body at grid point `i`: what it leaves in the result's buffer and in the kept copy. -/
theorem run (c : Dev nD) (i : grid0.Coords) (arg2 : Memref sig .tc .vmem S512x512 .f32) (harg2 : arg2.IsWhole)
    (arg3 : Memref sig .tc .vmem S512x512 .f32) (harg3 : arg3.IsWhole) (arg4 : Memref sig .tc .vmem S512x512 .i32) (harg4 : arg4.IsWhole)
    (arg5 : Memref sig .tc .vmem S512x512 .i32) (harg5 : arg5.IsWhole)
    (x0 x1 : Vec F S512x512 .f32) (xs : Vec F S512x512 .i32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs ∗ tbPt c tbM (tbl (F := F) 0)
        ∗ (iprop(owns (c : Thread nD τ) arg2 fullShare x0 ∗ owns (c : Thread nD τ) arg3 fullShare x1
            ∗ owns (c : Thread nD τ) arg4 fullShare (newOut (word 4 (i 0).val) (word 0 (i 0).val) (word 1 (i 0).val) x0 x1 xs)
            ∗ owns (c : Thread nD τ) arg5 fullShare (newScr (word 4 (i 0).val) (word 0 (i 0).val) (word 1 (i 0).val) x0 x1 xs)
            ∗ tbPt c tbM (tbl (F := F) 0)) -∗ K ⟨⟩))
      ⊢ wp frame (wpE (defs₀ (F := F)) Variants.none c none) E
          (cc0__sample_sym_kernel i tbM htbM arg2 harg2 arg3 harg3 arg4 harg4 arg5 harg5) K := by
  simp only [cc0__sample_sym_kernel_eq_skeleton]; unfold cc0__sample_sym_kernel_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold owns
  iintro ⟨⟨%f0, %hf0, H0⟩, ⟨%f1, %hf1, H1⟩, ⟨%d2, %f2, -, H2⟩, ⟨%fs, %hfs, HS⟩, HT, Hk⟩
  obtain rfl := harg2.eq_unread hf0; obtain rfl := harg3.eq_unread hf1; obtain rfl := harg5.eq_unread hfs
  have e1 := at_off1 (F := F) i (Facts₀.k0_off1_inb i)
  have e2 := at_off2 (F := F) i (Facts₀.k0_off2_inb i)
  have e5 := at_off5 (F := F) i (Facts₀.k0_off5_inb i)
  have hw := mode_cases (i 0)
  -- the words and the two tiles as the body reads them
  have hx0 := readAt_whole arg2 (harg2.unread x0) inb_S512x512_S512x512_0_0
  have hx1 := readAt_whole arg3 (harg3.unread x1) inb_S512x512_S512x512_0_0
  rw [hf0] at hx0; rw [hf1] at hx1
  have hT : tile ((tbl (F := F)).at 0 (Rect.unit (s := S64x5) (k0_off1 i) S1x1.size (Facts₀.k0_off1_inb i)) numel1_S1x1)
      ((tbl (F := F)).at 0 (Rect.unit (s := S64x5) (k0_off2 i) S1x1.size (Facts₀.k0_off2_inb i)) numel1_S1x1) x0 x1
      = tile (word 0 (i 0).val) (word 1 (i 0).val) x0 x1 := by rw [e1, e2]
  have hD : diag2 ((tbl (F := F)).at 0 (Rect.unit (s := S64x5) (k0_off1 i) S1x1.size (Facts₀.k0_off1_inb i)) numel1_S1x1)
      ((tbl (F := F)).at 0 (Rect.unit (s := S64x5) (k0_off2 i) S1x1.size (Facts₀.k0_off2_inb i)) numel1_S1x1) x0 x1
      = diag (word 0 (i 0).val) (word 1 (i 0).val) x0 x1 := (diag2_eq _ _ _ _).trans (by rw [e1, e2])
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (out_read arg4 f2 ((tbl (F := F)).at 0 (Rect.unit (s := S64x5) (k0_off5 i) S1x1.size (Facts₀.k0_off5_inb i)) numel1_S1x1)
      (by rw [e5]; exact hw) _ _ _ _).trans ?_
    unfold newOut
    rw [e5]
    split
    · exact hT
    · rename_i h0
      split
      · refine congrArg k0_pay3 (((readAt_whole arg5 _ inb_S512x512_S512x512_0_0).trans (scr_read arg5 _
          ((tbl (F := F)).at 0 (Rect.unit (s := S64x5) (k0_off5 i) S1x1.size (Facts₀.k0_off5_inb i)) numel1_S1x1) _ _)).trans ?_)
        rw [e5, if_neg h0]; exact hfs
      · exact hD
  isplitl [HS]
  · iexists _; isplitr
    swap; · iexact HS
    ipureintro
    refine (scr_read arg5 _ ((tbl (F := F)).at 0 (Rect.unit (s := S64x5) (k0_off5 i) S1x1.size (Facts₀.k0_off5_inb i)) numel1_S1x1) _ _).trans ?_
    unfold newScr
    rw [e5]
    split
    · exact (c2 _ _ _ _).trans hT
    · exact hfs
  iexact HT

end Cert.KernelIdeal.Sym

end
-- ==== Proof.KernelIdeal.Frame.lean ====
/- The launch: what the arrays hold when the grid starts, what every point leaves, and the run of the whole program. -/
module

public import proofs.«01_k».proof.Proof.KernelIdeal.Run
public import Idealize.ShloMosaic.Lib.Claim
public import Idealize.ShloMosaic.Lib.Pipeline.Kit
public import Idealize.ShloMosaic.Lib.StableHlo.RunRead

@[expose] public section

set_option maxRecDepth 16384

noncomputable section

namespace Cert.KernelIdeal.Sym

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the grid finds -/

/-- A buffer's contents when the grid starts: after the table and the two planes of probabilities are laid out. -/
abbrev V (c : Dev nD) (b : Ref sig .tc) : Buf (Elt F) ((c : Thread nD τ).loc b) :=
  StableHlo.after hostOps0 (fun b => m (c, b)) b

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ⟨rfl, rfl, rfl, rfl, rfl⟩ main_chain

/-- The argument is as it was launched, … -/
theorem V_arg0 (c : Dev nD) : V m c main_arg0 = m ((c : Thread nD τ).loc main_arg0) := by unfold V hostOps0; after_results
/-- … the table is the table, … -/
theorem V_tbl (c : Dev nD) : V m c main_call0_c = fun i => lit0 (S64x5.rowMajor i) := by unfold V hostOps0; after_results; rfl
/-- … and the two planes are the two slices of the argument. -/
theorem V_plane0 (c : Dev nD) : V m c main_call0_v1
    = shapeCast S4096x4096 (extractStridedSlice S4096x4096x1 ![0, 0, 0] (m ((c : Thread nD τ).loc main_arg0)) slices_S4096x4096x2_S4096x4096x1_0_0_0) shapeCasts_S4096x4096x1_S4096x4096 := by
  unfold V hostOps0; after_results; rfl
theorem V_plane1 (c : Dev nD) : V m c main_call0_v3
    = shapeCast S4096x4096 (extractStridedSlice S4096x4096x1 ![0, 0, 1] (m ((c : Thread nD τ).loc main_arg0)) slices_S4096x4096x2_S4096x4096x1_0_0_1) shapeCasts_S4096x4096x1_S4096x4096 := by
  unfold V hostOps0; after_results; rfl

theorem V_pre (c : Dev nD) (j : Fin 1) : V m c (pre0.ref j) = tbl (F := F) j := by
  obtain rfl : j = 0 := Subsingleton.elim _ _
  exact V_tbl m c

/-- The pipeline at the table. -/
abbrev adm : (pcfg0 (F := F)).Adm := ⟨tbl, tbl_ok⟩
abbrev cfgM : Pipeline.Cfg sig Λ₀ := cfg0 (adm (F := F))

/-- No point leaves the result's buffer alone. -/
theorem idle_false (w : Fin 3) (t : Fin (cfgM (F := F)).N) : (cfgM (F := F)).idle w ((cfgM (F := F)).grid.coords t) = false := by
  have key : ∀ (i : grid0.Coords), ∃ h : (∀ a, k0_off5 i a + 1 ≤ S64x5.size a),
      lit0 (S64x5.rowMajor (fun a => ⟨k0_off5 i a, h a⟩)) = word 4 (i 0).val := by decide +kernel
  have hat : ∀ i : grid0.Coords, (tbl (F := F)).atD 0 (k0_off5 i) = word 4 (i 0).val := fun i => by
    obtain ⟨h, e⟩ := key i
    exact (dif_pos h).trans e
  match w with
  | 0 => rfl
  | 1 => rfl
  | 2 =>
    show (!(k0_cond1 ((tbl (F := F)).atD 0 (k0_off5 (grid0.coords t))) == 1#1) && !(k0_cond2 ((tbl (F := F)).atD 0 (k0_off5 (grid0.coords t))) == 1#1)
      && !(k0_cond3 ((tbl (F := F)).atD 0 (k0_off5 (grid0.coords t))) == 1#1)) = false
    rw [hat]
    rcases mode_cases (grid0.coords t 0) with h | h | h <;> rw [h] <;> rfl

/-- Window `w`'s block at a point, read off its array as the grid finds it. -/
def iblk (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V m c (Pipeline.arrRef spec0 w))

theorem before0_of {c : Dev nD} (dat : Dat τ (Elt F) Unit ℕ (UR sig nD τ) ℕ (cfgM (F := F)) c) (hA : dat.A 0 = V m c (Pipeline.arrRef spec0 0))
    (hafter : ∀ t, dat.after 0 t = iblk m c 0 t) (t : Fin (cfgM (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM (F := F)) c) (hA : dat.A 1 = V m c (Pipeline.arrRef spec0 1))
    (hafter : ∀ t, dat.after 1 t = iblk m c 1 t) (t : Fin (cfgM (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What every point leaves -/

/-- The tile the point's two words name, from the two blocks it is handed. -/
def tileAt (c : Dev nD) (t : Fin (cfgM (F := F)).N) : Vec F S512x512 .i32 :=
  tile (word 0 t.val) (word 1 t.val) (iblk m c 0 t) (iblk m c 1 t)
/-- The point before. -/
def prev (t : Fin (cfgM (F := F)).N) : Fin (cfgM (F := F)).N := ⟨t.val - 1, Nat.lt_of_le_of_lt (Nat.sub_le _ _) t.isLt⟩
/-- What the point leaves in the result's buffer: the kept copy being the tile of the point before where it is used. -/
def outAt (c : Dev nD) (t : Fin (cfgM (F := F)).N) : Vec F S512x512 .i32 :=
  newOut (word 4 t.val) (word 0 t.val) (word 1 t.val) (iblk m c 0 t) (iblk m c 1 t) (tileAt m c (prev t))

/-- What holds of the kept copy before position `n`: after a point whose word is 0 it is that point's tile. -/
def Kept (c : Dev nD) (n : ℕ) (d : Vec F S512x512 .i32) : Prop :=
  ∀ t : Fin (cfgM (F := F)).N, t.val + 1 = n → word 4 t.val = 0#32 → d = tileAt m c t

/-- What the points pass on: the kept copy, the generator's register, the table. -/
def Phi (c : Dev nD) (n : ℕ) : sProp 𝕄 :=
  iprop(iprop((∃ d, iprop(⌜Kept m c n d⌝ ∗ owns (c : Thread nD τ) scM fullShare d)) ∗ (∃ r, prngReg c r)) ∗ Pipeline.ΦT pre0 (tbl (F := F)) c)

/-- The proof data. -/
def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => outAt m c t
  Φ t := Phi m c t.val
  q _ := fullShare
  owed _ := 0

theorem A_eq (c : Dev nD) (w : Fin (cfgM (F := F)).W) : (dats m 0 c).A w = V m c (Pipeline.arrRef spec0 w) := by
  dsimp only [dats]
theorem after_0 (c : Dev nD) (t : Fin (cfgM (F := F)).N) : (dats m 0 c).after 0 t = iblk m c 0 t := by dsimp only [dats]; try rfl
theorem after_1 (c : Dev nD) (t : Fin (cfgM (F := F)).N) : (dats m 0 c).after 1 t = iblk m c 1 t := by dsimp only [dats]; try rfl
theorem after_2 (c : Dev nD) (t : Fin (cfgM (F := F)).N) : (dats m 0 c).after 2 t = outAt m c t := by dsimp only [dats]; try rfl
theorem before_0 (c : Dev nD) (t : Fin (cfgM (F := F)).N) (d) : (dats m 0 c).before 0 t d = iblk m c 0 t :=
  before0_of m (dats m 0 c) (A_eq m c 0) (after_0 m c) t d
theorem before_1 (c : Dev nD) (t : Fin (cfgM (F := F)).N) (d) : (dats m 0 c).before 1 t d = iblk m c 1 t :=
  before1_of m (dats m 0 c) (A_eq m c 1) (after_1 m c) t d

/-! ## The body at a point -/

abbrev ms0 (t : Fin (cfgM (F := F)).N) : Memref sig .tc .vmem S512x512 .f32 := spec0_0.stage ((cfgM (F := F)).slots t 0)
abbrev hs0 (t : Fin (cfgM (F := F)).N) : (ms0 (F := F) t).IsWhole := hstage0_0 (((cfgM (F := F)).slots t 0).cast nbuf0_0)
abbrev ms1 (t : Fin (cfgM (F := F)).N) : Memref sig .tc .vmem S512x512 .f32 := spec0_1.stage ((cfgM (F := F)).slots t 1)
abbrev hs1 (t : Fin (cfgM (F := F)).N) : (ms1 (F := F) t).IsWhole := hstage0_1 (((cfgM (F := F)).slots t 1).cast nbuf0_1)
abbrev ms2 (t : Fin (cfgM (F := F)).N) : Memref sig .tc .vmem S512x512 .i32 := spec0_2.stage ((cfgM (F := F)).slots t 2)
abbrev hs2 (t : Fin (cfgM (F := F)).N) : (ms2 (F := F) t).IsWhole := hstage0_2 (((cfgM (F := F)).slots t 2).cast nbuf0_2)

abbrev bodyAt (t : Fin (cfgM (F := F)).N) : Prog (TpuEff nD τ sig (Elt F) Λ₀ .tc) PUnit :=
  cc0__sample_sym_kernel (grid0.coords t) tbM htbM (ms0 (F := F) t) (hs0 (F := F) t) (ms1 (F := F) t) (hs1 (F := F) t) (ms2 (F := F) t) (hs2 (F := F) t) scM (Memref.isWhole_whole _)

theorem defs_row (t : Fin (cfgM (F := F)).N) :
    defs₀ (F := F) .tc (cfgM (F := F)).body ((cfgM (F := F)).bodyArgs t ((cfgM (F := F)).slots t)) = bodyAt (F := F) t := by
  unfold defs₀; rw [Defs.onTc_tc]

def bodyPre (c : Dev nD) (t : Fin (cfgM (F := F)).N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d)))

def bodyPost (c : Dev nD) (t : Fin (cfgM (F := F)).N) : sProp 𝕄 :=
  iprop((dats m 0 c).Φ t.succ ∗ (dats m 0 c).owesAt () t.succ
    ∗ owns (c : Thread nD τ) (ms0 (F := F) t) fullShare ((dats m 0 c).after 0 t)
    ∗ owns (c : Thread nD τ) (ms1 (F := F) t) fullShare ((dats m 0 c).after 1 t)
    ∗ owns (c : Thread nD τ) (ms2 (F := F) t) fullShare ((dats m 0 c).after 2 t))

/-- The result's buffer ends as named, whatever the kept copy was, if what holds of the kept copy held. -/
theorem newOut_eq (c : Dev nD) (t : Fin (cfgM (F := F)).N) (d : Vec F S512x512 .i32) (h : Kept m c t.val d) :
    newOut (word 4 t.val) (word 0 t.val) (word 1 t.val) (iblk m c 0 t) (iblk m c 1 t) d = outAt m c t := by
  unfold outAt newOut
  split
  · rfl
  · split
    · rename_i h1
      have ht : t.val < 64 := t.isLt
      obtain ⟨hz, h0, -⟩ := mode_one ⟨t.val, ht⟩ h1
      rw [h (prev t) (Nat.sub_add_cancel (Nat.pos_of_ne_zero hz)) h0]
    · rfl

/-- What holds of the kept copy holds after the point. -/
theorem kept_succ (c : Dev nD) (t : Fin (cfgM (F := F)).N) (d : Vec F S512x512 .i32) :
    Kept m c (t.val + 1) (newScr (word 4 t.val) (word 0 t.val) (word 1 t.val) (iblk m c 0 t) (iblk m c 1 t) d) := by
  intro t' ht' h0
  obtain rfl : t' = t := Fin.ext (Nat.succ.inj ht')
  unfold newScr
  rw [if_pos h0]; rfl

set_option maxHeartbeats 800000 in
/-- The body at any point. -/
theorem sound_body (c : Dev nD) (t : Fin (cfgM (F := F)).N) :
    bodyPre m c t ⊢ wp frame (wpE (defs₀ (F := F)) Variants.none c none) Set.univ (bodyAt (F := F) t) (fun _ => bodyPost m c t) := by
  unfold bodyPre bodyPost
  simp only [before_0, before_1]
  rw [show (dats m 0 c).owesAt () t.succ = (dats m 0 c).owesAt () t.castSucc from rfl, after_0, after_1, after_2]
  rw [show (dats m 0 c).Φ t.succ = Phi m c (t.val + 1) from rfl, show (dats m 0 c).Φ t.castSucc = Phi m c t.val from rfl]
  unfold Phi
  rw [PhiT_eq]
  have hcv : (grid0.coords t 0).val = t.val := coords_val t
  iintro ⟨⟨⟨⟨%d, %hk, HS⟩, Hg⟩, HT⟩, Ho, ⟨%d0, H0⟩, ⟨%d1, H1⟩, ⟨%d2, H2⟩⟩
  iapply (run c (grid0.coords t) _ _ _ _ _ _ _ _ (iblk m c 0 t) (iblk m c 1 t) d Set.univ _)
  isplitl [H0]; · iexact H0
  isplitl [H1]; · iexact H1
  isplitl [H2]; · iexists _; iexact H2
  isplitl [HS]; · iexact HS
  isplitl [HT]; · iexact HT
  rw [hcv, newOut_eq m c t d hk]
  iintro ⟨H0, H1, H2, HS, HT⟩
  isplitl [HS Hg HT]
  · isplitl [HS Hg]
    · isplitl [HS]
      · iexists _; isplitr
        swap; · iexact HS
        ipureintro; exact kept_succ m c t d
      iexact Hg
    iexact HT
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0, defs_row]
  simp only [show idle0 (F := F) tbl 2 (((pcfg0 (F := F)).gridAt tbl).coords t) = false from idle_false 2 t]
  exact triple_restated (sound_body m c t) rfl .rfl fun _ => .rfl

theorem hin (c : Dev nD) : iprop(Pipeline.ΦA spec0 c ∗ Pipeline.ΦT pre0 (tbl (F := F)) c) ⊢ (dats m 0 c).Φ 0 := by
  rw [show (dats m 0 c).Φ 0 = Phi m c 0 from rfl, PhiA_eq]
  unfold Phi
  iintro ⟨⟨⟨%d, HS⟩, Hg⟩, HT⟩
  isplitl [HS Hg]
  · isplitl [HS]
    · iexists d; isplitr
      swap; · iexact HS
      ipureintro; exact fun t h => absurd h (Nat.succ_ne_zero _)
    iexact Hg
  iexact HT

theorem hout (c : Dev nD) : (dats m 0 c).Φ (Fin.last (cfgM (F := F)).N) ⊢ Pipeline.ΦA spec0 c := by
  rw [show (dats m 0 c).Φ (Fin.last (cfgM (F := F)).N) = Phi m c (cfgM (F := F)).N from rfl, PhiA_eq]
  unfold Phi
  iintro ⟨⟨⟨%d, -, HS⟩, Hg⟩, -⟩
  isplitl [HS]
  · iexists _; iexact HS
  iexact Hg

set_option backward.isDefEq.respectTransparency.types false in
/-- THE RUN of the program: every array ends at what the points leave in it, and no semaphore is left raised. -/
theorem run_main : θ_run defs (onTc (τ := τ) (main (F := F))) (s₀ m ρ)
    (fun r => (Pipeline.FramePost (Pipeline.pin pcfgs fun _ => adm (F := F)) (dats m) 0 (V m)) r ∧ r.2.sem = fun _ => 0) :=
  Pipeline.θ_run_frameP_track (Q' := _) pcfgs (fun _ => adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- THE FRAME: the argument ends as it was, and no semaphore is left raised. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => ((h.1 c).2 main_arg0 (by decide : main_arg0 ∈ Pipeline.restRefs sig spec0)).trans (V_arg0 m c), h.2⟩)
    (run_main m ρ)

/-- The same with the result: the result array is the one the points' write-backs make. -/
theorem run_result : θ_run defs (onTc (τ := τ) (main (F := F))) ⟨m, fun _ => 0, ρ⟩ (fun r => ∀ c : Dev nD,
    r.2.mem ((c.tc : Thread nD τ).loc main_v0) = (dats m 0 c).arrAt 2 (cfgM (F := F)).N
    ∧ r.2.mem ((c.tc : Thread nD τ).loc main_arg0) = m ((c.tc : Thread nD τ).loc main_arg0)) :=
  (θ_run defs _ _).mono (fun _ h c => ⟨(h.1 c).1 2, ((h.1 c).2 main_arg0 (by decide : main_arg0 ∈ Pipeline.restRefs sig spec0)).trans (V_arg0 m c)⟩)
    (run_main m ρ)

end Cert.KernelIdeal.Sym

end
-- ==== Proof.ReferenceIdeal.Ops.lean ====
/- The reference as one line of operations, cut into short pieces. -/
module

public import proofs.«01_k».proof.Proof.Gen.ReferenceIdeal
public import Idealize.ShloMosaic.Lib.Claim
public import Idealize.ShloMosaic.Lib.StableHlo.Run
public import Idealize.ShloMosaic.Lib.StableHlo.RunRead
public import Idealize.ShloMosaic.Lib.StableHlo.RunClose

@[expose] public section

set_option maxRecDepth 16384

noncomputable section

namespace Cert.ReferenceIdeal.Sym

open Idealize.ShloMosaic Idealize.ShloMosaic.TcCoe Idealize.ShloMosaic.StableHlo
open Idealize.SL.Sem
open Cert.ReferenceIdeal.Gen

variable {F : FTy → Type} [FloatOps F]

/-- Words over the matrix, numbers over the matrix, one word. -/
abbrev Words (F : FTy → Type) := (⟨S4096x4096, .i32⟩ : BufTy).Contents (Elt F)
abbrev Nums (F : FTy → Type) := (⟨S4096x4096, .f32⟩ : BufTy).Contents (Elt F)
abbrev Word (F : FTy → Type) := (⟨S_, .i32⟩ : BufTy).Contents (Elt F)

/-- The quotient of the second plane by the sum of the two. -/
abbrev wDen : List (HloOp τ sig (Elt F)) :=
  [ nullary main_cst (constant S_ .f32 0x00000000#32),
    binary main_arg0 main_cst main_v0 ((fun x v => Host.reduceAdd x v reducesTo_S4096x4096x2_S4096x4096_d2 h_S_) : (⟨S4096x4096x2, .f32⟩ : BufTy).Contents (Elt F) → (⟨S_, .f32⟩ : BufTy).Contents (Elt F) → Nums F),
    unary main_arg0 main_v1 ((extractStridedSlice S4096x4096x1 ![0, 0, 1] · slices_S4096x4096x2_S4096x4096x1_0_0_1) : (⟨S4096x4096x2, .f32⟩ : BufTy).Contents (Elt F) → (⟨S4096x4096x1, .f32⟩ : BufTy).Contents (Elt F)),
    reshape main_v1 main_v2 (rfl : (.f32 : EltTy) = .f32) shapeCasts_S4096x4096x1_S4096x4096,
    binary main_v2 main_v0 main_v3 (Host.divf : Nums F → Nums F → Nums F) ]
theorem wDen_sub : (wDen (F := F)).Forall fun op => op.bufs ⊆ tcRefs τ sig :=
  ⟨nullary_bufs_sub .., binary_bufs_sub .., unary_bufs_sub .., reshape_bufs_sub .., binary_bufs_sub ..⟩
theorem wDen_fresh : (wDen (F := F)).Forall fun op => op.fresh = ∅ := ⟨rfl, rfl, rfl, rfl, rfl⟩

/-- The seed 1 as two words. -/
abbrev wKey : List (HloOp τ sig (Elt F)) :=
  [ nullary main_c (constantI S_ 32 1#32),
    nullary main_c_0 (constantI S_ 32 32#32),
    binary main_c main_c_0 main_v4 (Host.shrui : Word F → Word F → Word F),
    unary main_v4 main_v5 (id : Word F → Word F),
    unary main_v5 main_v6 (broadcastInDim S1 ![] bcast_S_S1 : Word F → (⟨S1, .i32⟩ : BufTy).Contents (Elt F)),
    nullary main_c_1 (constantI S_ 32 4294967295#32),
    binary main_c main_c_1 main_v7 (andi : Word F → Word F → Word F),
    unary main_v7 main_v8 (id : Word F → Word F),
    unary main_v8 main_v9 (broadcastInDim S1 ![] bcast_S_S1 : Word F → (⟨S1, .i32⟩ : BufTy).Contents (Elt F)),
    binary main_v6 main_v9 main_v10 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]
theorem wKey_sub : (wKey (F := F)).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub ..⟩
theorem wKey_fresh : (wKey (F := F)).Forall fun op => op.fresh = ∅ := ⟨rfl, rfl, rfl, rfl, rfl, rfl, rfl, rfl, rfl, rfl⟩

/-- The limits 0 and 1 of the numbers drawn. -/
abbrev wLim : List (HloOp τ sig (Elt F)) :=
  [ nullary main_cst_2 (constant S_ .f32 0x00000000#32),
    nullary main_cst_3 (constant S_ .f32 0x3F800000#32),
    unary main_cst_2 main_call0_v0 (id : (⟨S_, .f32⟩ : BufTy).Contents (Elt F) → (⟨S_, .f32⟩ : BufTy).Contents (Elt F)),
    unary main_cst_3 main_call0_v1 (id : (⟨S_, .f32⟩ : BufTy).Contents (Elt F) → (⟨S_, .f32⟩ : BufTy).Contents (Elt F)),
    unary main_call0_v0 main_call0_v2 ((broadcastInDim S1x1 ![] bcast_S_S1x1) : (⟨S_, .f32⟩ : BufTy).Contents (Elt F) → (⟨S1x1, .f32⟩ : BufTy).Contents (Elt F)),
    unary main_call0_v1 main_call0_v3 ((broadcastInDim S1x1 ![] bcast_S_S1x1) : (⟨S_, .f32⟩ : BufTy).Contents (Elt F) → (⟨S1x1, .f32⟩ : BufTy).Contents (Elt F)) ]
theorem wLim_sub : (wLim (F := F)).Forall fun op => op.bufs ⊆ tcRefs τ sig :=
  ⟨nullary_bufs_sub .., nullary_bufs_sub .., unary_bufs_sub .., unary_bufs_sub .., unary_bufs_sub .., unary_bufs_sub ..⟩
theorem wLim_fresh : (wLim (F := F)).Forall fun op => op.fresh = ∅ := ⟨rfl, rfl, rfl, rfl, rfl, rfl⟩

/-- The two words taken apart. -/
abbrev wKeys : List (HloOp τ sig (Elt F)) :=
  [ unary main_v10 main_call0_v4 ((extractStridedSlice S1 ![0] · slices_S2_S1_0) : (⟨S2, .i32⟩ : BufTy).Contents (Elt F) → (⟨S1, .i32⟩ : BufTy).Contents (Elt F)),
    reshape main_call0_v4 main_call0_v5 (rfl : (.i32 : EltTy) = .i32) shapeCasts_S1_S_,
    unary main_v10 main_call0_v6 ((extractStridedSlice S1 ![1] · slices_S2_S1_1) : (⟨S2, .i32⟩ : BufTy).Contents (Elt F) → (⟨S1, .i32⟩ : BufTy).Contents (Elt F)),
    reshape main_call0_v6 main_call0_v7 (rfl : (.i32 : EltTy) = .i32) shapeCasts_S1_S_ ]
theorem wKeys_sub : (wKeys (F := F)).Forall fun op => op.bufs ⊆ tcRefs τ sig :=
  ⟨unary_bufs_sub .., reshape_bufs_sub .., unary_bufs_sub .., reshape_bufs_sub ..⟩
theorem wKeys_fresh : (wKeys (F := F)).Forall fun op => op.fresh = ∅ := ⟨rfl, rfl, rfl, rfl⟩

/-- Every entry's place in row-major order, as two words. -/
abbrev wIdx : List (HloOp τ sig (Elt F)) :=
  [ nullary main_call0_v8 (iotaInDim S4096x4096 64 0),
    nullary main_call0_v9 (iotaInDim S4096x4096 64 1),
    nullary main_call0_c (constantI S_ 64 4096#64),
    unary main_call0_c main_call0_v10 ((broadcastInDim S4096x4096 ![] bcast_S_S4096x4096) : (⟨S_, .i64⟩ : BufTy).Contents (Elt F) → (⟨S4096x4096, .i64⟩ : BufTy).Contents (Elt F)),
    binary main_call0_v10 main_call0_v8 main_call0_v11 (muli : (⟨S4096x4096, .i64⟩ : BufTy).Contents (Elt F) → (⟨S4096x4096, .i64⟩ : BufTy).Contents (Elt F) → (⟨S4096x4096, .i64⟩ : BufTy).Contents (Elt F)),
    nullary main_call0_c_0 (constantI S_ 64 1#64),
    unary main_call0_c_0 main_call0_v12 ((broadcastInDim S4096x4096 ![] bcast_S_S4096x4096) : (⟨S_, .i64⟩ : BufTy).Contents (Elt F) → (⟨S4096x4096, .i64⟩ : BufTy).Contents (Elt F)),
    binary main_call0_v12 main_call0_v9 main_call0_v13 (muli : (⟨S4096x4096, .i64⟩ : BufTy).Contents (Elt F) → (⟨S4096x4096, .i64⟩ : BufTy).Contents (Elt F) → (⟨S4096x4096, .i64⟩ : BufTy).Contents (Elt F)),
    binary main_call0_v11 main_call0_v13 main_call0_v14 (addi : (⟨S4096x4096, .i64⟩ : BufTy).Contents (Elt F) → (⟨S4096x4096, .i64⟩ : BufTy).Contents (Elt F) → (⟨S4096x4096, .i64⟩ : BufTy).Contents (Elt F)),
    nullary main_call0_c_1 (constantI S_ 64 32#64),
    unary main_call0_c_1 main_call0_v15 ((broadcastInDim S4096x4096 ![] bcast_S_S4096x4096) : (⟨S_, .i64⟩ : BufTy).Contents (Elt F) → (⟨S4096x4096, .i64⟩ : BufTy).Contents (Elt F)),
    binary main_call0_v14 main_call0_v15 main_call0_v16 (Host.shrui : (⟨S4096x4096, .i64⟩ : BufTy).Contents (Elt F) → (⟨S4096x4096, .i64⟩ : BufTy).Contents (Elt F) → (⟨S4096x4096, .i64⟩ : BufTy).Contents (Elt F)),
    unary main_call0_v14 main_call0_v17 ((trunci 32 · natLt_32_64) : (⟨S4096x4096, .i64⟩ : BufTy).Contents (Elt F) → Words F),
    unary main_call0_v16 main_call0_v18 ((trunci 32 · natLt_32_64) : (⟨S4096x4096, .i64⟩ : BufTy).Contents (Elt F) → Words F) ]
theorem wIdx_sub : (wIdx (F := F)).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩
theorem wIdx_fresh : (wIdx (F := F)).Forall fun op => op.fresh = ∅ := ⟨rfl, rfl, rfl, rfl, rfl, rfl, rfl, rfl, rfl, rfl, rfl, rfl, rfl, rfl⟩

/-- The words of the key added in. -/
abbrev w0 : List (HloOp τ sig (Elt F)) :=
  [ binary main_call0_v5 main_call0_v7 main_call0_call0_v0 (xori : Word F → Word F → Word F),
    nullary main_call0_call0_c (constantI S_ 32 466688986#32),
    binary main_call0_call0_v0 main_call0_call0_c main_call0_call0_v1 (xori : Word F → Word F → Word F),
    unary main_call0_v5 main_call0_call0_v2 ((broadcastInDim S4096x4096 ![] bcast_S_S4096x4096) : Word F → Words F),
    binary main_call0_v18 main_call0_call0_v2 main_call0_call0_v3 (addi : Words F → Words F → Words F),
    unary main_call0_v7 main_call0_call0_v4 ((broadcastInDim S4096x4096 ![] bcast_S_S4096x4096) : Word F → Words F),
    binary main_call0_v17 main_call0_call0_v4 main_call0_call0_v5 (addi : Words F → Words F → Words F) ]
theorem w0_sub : (w0 (F := F)).Forall fun op => op.bufs ⊆ tcRefs τ sig :=
  ⟨binary_bufs_sub .., nullary_bufs_sub .., binary_bufs_sub .., unary_bufs_sub .., binary_bufs_sub .., unary_bufs_sub .., binary_bufs_sub ..⟩
theorem w0_fresh : (w0 (F := F)).Forall fun op => op.fresh = ∅ := ⟨rfl, rfl, rfl, rfl, rfl, rfl, rfl⟩

/-- Round 1. -/
abbrev w1 : List (HloOp τ sig (Elt F)) :=
  [ binary main_call0_call0_v3 main_call0_call0_v5 main_call0_call0_v6 (addi : Words F → Words F → Words F),
    nullary main_call0_call0_c_0 (constantI S_ 32 13#32),
    unary main_call0_call0_c_0 main_call0_call0_v7 ((broadcastInDim S4096x4096 ![] bcast_S_S4096x4096) : Word F → Words F),
    binary main_call0_call0_v5 main_call0_call0_v7 main_call0_call0_v8 (Host.shli : Words F → Words F → Words F),
    nullary main_call0_call0_c_1 (constantI S_ 32 19#32),
    unary main_call0_call0_c_1 main_call0_call0_v9 ((broadcastInDim S4096x4096 ![] bcast_S_S4096x4096) : Word F → Words F),
    binary main_call0_call0_v5 main_call0_call0_v9 main_call0_call0_v10 (Host.shrui : Words F → Words F → Words F),
    binary main_call0_call0_v8 main_call0_call0_v10 main_call0_call0_v11 (ori : Words F → Words F → Words F),
    binary main_call0_call0_v6 main_call0_call0_v11 main_call0_call0_v12 (xori : Words F → Words F → Words F) ]
theorem w1_sub : (w1 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w1_fresh : (w1 (F := F)).Forall fun op => op.fresh = ∅ := ⟨rfl, rfl, rfl, rfl, rfl, rfl, rfl, rfl, rfl⟩

/-- Round 2. -/
abbrev w2 : List (HloOp τ sig (Elt F)) :=
  [ binary main_call0_call0_v6 main_call0_call0_v12 main_call0_call0_v13 (addi : Words F → Words F → Words F),
    nullary main_call0_call0_c_2 (constantI S_ 32 15#32),
    unary main_call0_call0_c_2 main_call0_call0_v14 ((broadcastInDim S4096x4096 ![] bcast_S_S4096x4096) : Word F → Words F),
    binary main_call0_call0_v12 main_call0_call0_v14 main_call0_call0_v15 (Host.shli : Words F → Words F → Words F),
    nullary main_call0_call0_c_3 (constantI S_ 32 17#32),
    unary main_call0_call0_c_3 main_call0_call0_v16 ((broadcastInDim S4096x4096 ![] bcast_S_S4096x4096) : Word F → Words F),
    binary main_call0_call0_v12 main_call0_call0_v16 main_call0_call0_v17 (Host.shrui : Words F → Words F → Words F),
    binary main_call0_call0_v15 main_call0_call0_v17 main_call0_call0_v18 (ori : Words F → Words F → Words F),
    binary main_call0_call0_v13 main_call0_call0_v18 main_call0_call0_v19 (xori : Words F → Words F → Words F) ]
theorem w2_sub : (w2 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w2_fresh : (w2 (F := F)).Forall fun op => op.fresh = ∅ := ⟨rfl, rfl, rfl, rfl, rfl, rfl, rfl, rfl, rfl⟩

/-- Round 3. -/
abbrev w3 : List (HloOp τ sig (Elt F)) :=
  [ binary main_call0_call0_v13 main_call0_call0_v19 main_call0_call0_v20 (addi : Words F → Words F → Words F),
    nullary main_call0_call0_c_4 (constantI S_ 32 26#32),
    unary main_call0_call0_c_4 main_call0_call0_v21 ((broadcastInDim S4096x4096 ![] bcast_S_S4096x4096) : Word F → Words F),
    binary main_call0_call0_v19 main_call0_call0_v21 main_call0_call0_v22 (Host.shli : Words F → Words F → Words F),
    nullary main_call0_call0_c_5 (constantI S_ 32 6#32),
    unary main_call0_call0_c_5 main_call0_call0_v23 ((broadcastInDim S4096x4096 ![] bcast_S_S4096x4096) : Word F → Words F),
    binary main_call0_call0_v19 main_call0_call0_v23 main_call0_call0_v24 (Host.shrui : Words F → Words F → Words F),
    binary main_call0_call0_v22 main_call0_call0_v24 main_call0_call0_v25 (ori : Words F → Words F → Words F),
    binary main_call0_call0_v20 main_call0_call0_v25 main_call0_call0_v26 (xori : Words F → Words F → Words F) ]
theorem w3_sub : (w3 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w3_fresh : (w3 (F := F)).Forall fun op => op.fresh = ∅ := ⟨rfl, rfl, rfl, rfl, rfl, rfl, rfl, rfl, rfl⟩

/-- Round 4. -/
abbrev w4 : List (HloOp τ sig (Elt F)) :=
  [ binary main_call0_call0_v20 main_call0_call0_v26 main_call0_call0_v27 (addi : Words F → Words F → Words F),
    nullary main_call0_call0_c_6 (constantI S_ 32 6#32),
    unary main_call0_call0_c_6 main_call0_call0_v28 ((broadcastInDim S4096x4096 ![] bcast_S_S4096x4096) : Word F → Words F),
    binary main_call0_call0_v26 main_call0_call0_v28 main_call0_call0_v29 (Host.shli : Words F → Words F → Words F),
    nullary main_call0_call0_c_7 (constantI S_ 32 26#32),
    unary main_call0_call0_c_7 main_call0_call0_v30 ((broadcastInDim S4096x4096 ![] bcast_S_S4096x4096) : Word F → Words F),
    binary main_call0_call0_v26 main_call0_call0_v30 main_call0_call0_v31 (Host.shrui : Words F → Words F → Words F),
    binary main_call0_call0_v29 main_call0_call0_v31 main_call0_call0_v32 (ori : Words F → Words F → Words F),
    binary main_call0_call0_v27 main_call0_call0_v32 main_call0_call0_v33 (xori : Words F → Words F → Words F) ]
theorem w4_sub : (w4 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w4_fresh : (w4 (F := F)).Forall fun op => op.fresh = ∅ := ⟨rfl, rfl, rfl, rfl, rfl, rfl, rfl, rfl, rfl⟩

/-- The key added in for the first time. -/
abbrev w5 : List (HloOp τ sig (Elt F)) :=
  [ unary main_call0_v7 main_call0_call0_v34 ((broadcastInDim S4096x4096 ![] bcast_S_S4096x4096) : Word F → Words F),
    binary main_call0_call0_v27 main_call0_call0_v34 main_call0_call0_v35 (addi : Words F → Words F → Words F),
    unary main_call0_call0_v1 main_call0_call0_v36 ((broadcastInDim S4096x4096 ![] bcast_S_S4096x4096) : Word F → Words F),
    binary main_call0_call0_v33 main_call0_call0_v36 main_call0_call0_v37 (addi : Words F → Words F → Words F),
    nullary main_call0_call0_c_8 (constantI S_ 32 1#32),
    unary main_call0_call0_c_8 main_call0_call0_v38 ((broadcastInDim S4096x4096 ![] bcast_S_S4096x4096) : Word F → Words F),
    binary main_call0_call0_v37 main_call0_call0_v38 main_call0_call0_v39 (addi : Words F → Words F → Words F) ]
theorem w5_sub : (w5 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w5_fresh : (w5 (F := F)).Forall fun op => op.fresh = ∅ := ⟨rfl, rfl, rfl, rfl, rfl, rfl, rfl⟩

/-- Round 5. -/
abbrev w6 : List (HloOp τ sig (Elt F)) :=
  [ binary main_call0_call0_v35 main_call0_call0_v39 main_call0_call0_v40 (addi : Words F → Words F → Words F),
    nullary main_call0_call0_c_9 (constantI S_ 32 17#32),
    unary main_call0_call0_c_9 main_call0_call0_v41 ((broadcastInDim S4096x4096 ![] bcast_S_S4096x4096) : Word F → Words F),
    binary main_call0_call0_v39 main_call0_call0_v41 main_call0_call0_v42 (Host.shli : Words F → Words F → Words F),
    nullary main_call0_call0_c_10 (constantI S_ 32 15#32),
    unary main_call0_call0_c_10 main_call0_call0_v43 ((broadcastInDim S4096x4096 ![] bcast_S_S4096x4096) : Word F → Words F),
    binary main_call0_call0_v39 main_call0_call0_v43 main_call0_call0_v44 (Host.shrui : Words F → Words F → Words F),
    binary main_call0_call0_v42 main_call0_call0_v44 main_call0_call0_v45 (ori : Words F → Words F → Words F),
    binary main_call0_call0_v40 main_call0_call0_v45 main_call0_call0_v46 (xori : Words F → Words F → Words F) ]
theorem w6_sub : (w6 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w6_fresh : (w6 (F := F)).Forall fun op => op.fresh = ∅ := ⟨rfl, rfl, rfl, rfl, rfl, rfl, rfl, rfl, rfl⟩

/-- Round 6. -/
abbrev w7 : List (HloOp τ sig (Elt F)) :=
  [ binary main_call0_call0_v40 main_call0_call0_v46 main_call0_call0_v47 (addi : Words F → Words F → Words F),
    nullary main_call0_call0_c_11 (constantI S_ 32 29#32),
    unary main_call0_call0_c_11 main_call0_call0_v48 ((broadcastInDim S4096x4096 ![] bcast_S_S4096x4096) : Word F → Words F),
    binary main_call0_call0_v46 main_call0_call0_v48 main_call0_call0_v49 (Host.shli : Words F → Words F → Words F),
    nullary main_call0_call0_c_12 (constantI S_ 32 3#32),
    unary main_call0_call0_c_12 main_call0_call0_v50 ((broadcastInDim S4096x4096 ![] bcast_S_S4096x4096) : Word F → Words F),
    binary main_call0_call0_v46 main_call0_call0_v50 main_call0_call0_v51 (Host.shrui : Words F → Words F → Words F),
    binary main_call0_call0_v49 main_call0_call0_v51 main_call0_call0_v52 (ori : Words F → Words F → Words F),
    binary main_call0_call0_v47 main_call0_call0_v52 main_call0_call0_v53 (xori : Words F → Words F → Words F) ]
theorem w7_sub : (w7 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w7_fresh : (w7 (F := F)).Forall fun op => op.fresh = ∅ := ⟨rfl, rfl, rfl, rfl, rfl, rfl, rfl, rfl, rfl⟩

/-- Round 7. -/
abbrev w8 : List (HloOp τ sig (Elt F)) :=
  [ binary main_call0_call0_v47 main_call0_call0_v53 main_call0_call0_v54 (addi : Words F → Words F → Words F),
    nullary main_call0_call0_c_13 (constantI S_ 32 16#32),
    unary main_call0_call0_c_13 main_call0_call0_v55 ((broadcastInDim S4096x4096 ![] bcast_S_S4096x4096) : Word F → Words F),
    binary main_call0_call0_v53 main_call0_call0_v55 main_call0_call0_v56 (Host.shli : Words F → Words F → Words F),
    nullary main_call0_call0_c_14 (constantI S_ 32 16#32),
    unary main_call0_call0_c_14 main_call0_call0_v57 ((broadcastInDim S4096x4096 ![] bcast_S_S4096x4096) : Word F → Words F),
    binary main_call0_call0_v53 main_call0_call0_v57 main_call0_call0_v58 (Host.shrui : Words F → Words F → Words F),
    binary main_call0_call0_v56 main_call0_call0_v58 main_call0_call0_v59 (ori : Words F → Words F → Words F),
    binary main_call0_call0_v54 main_call0_call0_v59 main_call0_call0_v60 (xori : Words F → Words F → Words F) ]
theorem w8_sub : (w8 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w8_fresh : (w8 (F := F)).Forall fun op => op.fresh = ∅ := ⟨rfl, rfl, rfl, rfl, rfl, rfl, rfl, rfl, rfl⟩

/-- Round 8. -/
abbrev w9 : List (HloOp τ sig (Elt F)) :=
  [ binary main_call0_call0_v54 main_call0_call0_v60 main_call0_call0_v61 (addi : Words F → Words F → Words F),
    nullary main_call0_call0_c_15 (constantI S_ 32 24#32),
    unary main_call0_call0_c_15 main_call0_call0_v62 ((broadcastInDim S4096x4096 ![] bcast_S_S4096x4096) : Word F → Words F),
    binary main_call0_call0_v60 main_call0_call0_v62 main_call0_call0_v63 (Host.shli : Words F → Words F → Words F),
    nullary main_call0_call0_c_16 (constantI S_ 32 8#32),
    unary main_call0_call0_c_16 main_call0_call0_v64 ((broadcastInDim S4096x4096 ![] bcast_S_S4096x4096) : Word F → Words F),
    binary main_call0_call0_v60 main_call0_call0_v64 main_call0_call0_v65 (Host.shrui : Words F → Words F → Words F),
    binary main_call0_call0_v63 main_call0_call0_v65 main_call0_call0_v66 (ori : Words F → Words F → Words F),
    binary main_call0_call0_v61 main_call0_call0_v66 main_call0_call0_v67 (xori : Words F → Words F → Words F) ]
theorem w9_sub : (w9 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w9_fresh : (w9 (F := F)).Forall fun op => op.fresh = ∅ := ⟨rfl, rfl, rfl, rfl, rfl, rfl, rfl, rfl, rfl⟩

/-- The key added in for the second time. -/
abbrev w10 : List (HloOp τ sig (Elt F)) :=
  [ unary main_call0_call0_v1 main_call0_call0_v68 ((broadcastInDim S4096x4096 ![] bcast_S_S4096x4096) : Word F → Words F),
    binary main_call0_call0_v61 main_call0_call0_v68 main_call0_call0_v69 (addi : Words F → Words F → Words F),
    unary main_call0_v5 main_call0_call0_v70 ((broadcastInDim S4096x4096 ![] bcast_S_S4096x4096) : Word F → Words F),
    binary main_call0_call0_v67 main_call0_call0_v70 main_call0_call0_v71 (addi : Words F → Words F → Words F),
    nullary main_call0_call0_c_17 (constantI S_ 32 2#32),
    unary main_call0_call0_c_17 main_call0_call0_v72 ((broadcastInDim S4096x4096 ![] bcast_S_S4096x4096) : Word F → Words F),
    binary main_call0_call0_v71 main_call0_call0_v72 main_call0_call0_v73 (addi : Words F → Words F → Words F) ]
theorem w10_sub : (w10 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w10_fresh : (w10 (F := F)).Forall fun op => op.fresh = ∅ := ⟨rfl, rfl, rfl, rfl, rfl, rfl, rfl⟩

/-- Round 9. -/
abbrev w11 : List (HloOp τ sig (Elt F)) :=
  [ binary main_call0_call0_v69 main_call0_call0_v73 main_call0_call0_v74 (addi : Words F → Words F → Words F),
    nullary main_call0_call0_c_18 (constantI S_ 32 13#32),
    unary main_call0_call0_c_18 main_call0_call0_v75 ((broadcastInDim S4096x4096 ![] bcast_S_S4096x4096) : Word F → Words F),
    binary main_call0_call0_v73 main_call0_call0_v75 main_call0_call0_v76 (Host.shli : Words F → Words F → Words F),
    nullary main_call0_call0_c_19 (constantI S_ 32 19#32),
    unary main_call0_call0_c_19 main_call0_call0_v77 ((broadcastInDim S4096x4096 ![] bcast_S_S4096x4096) : Word F → Words F),
    binary main_call0_call0_v73 main_call0_call0_v77 main_call0_call0_v78 (Host.shrui : Words F → Words F → Words F),
    binary main_call0_call0_v76 main_call0_call0_v78 main_call0_call0_v79 (ori : Words F → Words F → Words F),
    binary main_call0_call0_v74 main_call0_call0_v79 main_call0_call0_v80 (xori : Words F → Words F → Words F) ]
theorem w11_sub : (w11 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w11_fresh : (w11 (F := F)).Forall fun op => op.fresh = ∅ := ⟨rfl, rfl, rfl, rfl, rfl, rfl, rfl, rfl, rfl⟩

/-- Round 10. -/
abbrev w12 : List (HloOp τ sig (Elt F)) :=
  [ binary main_call0_call0_v74 main_call0_call0_v80 main_call0_call0_v81 (addi : Words F → Words F → Words F),
    nullary main_call0_call0_c_20 (constantI S_ 32 15#32),
    unary main_call0_call0_c_20 main_call0_call0_v82 ((broadcastInDim S4096x4096 ![] bcast_S_S4096x4096) : Word F → Words F),
    binary main_call0_call0_v80 main_call0_call0_v82 main_call0_call0_v83 (Host.shli : Words F → Words F → Words F),
    nullary main_call0_call0_c_21 (constantI S_ 32 17#32),
    unary main_call0_call0_c_21 main_call0_call0_v84 ((broadcastInDim S4096x4096 ![] bcast_S_S4096x4096) : Word F → Words F),
    binary main_call0_call0_v80 main_call0_call0_v84 main_call0_call0_v85 (Host.shrui : Words F → Words F → Words F),
    binary main_call0_call0_v83 main_call0_call0_v85 main_call0_call0_v86 (ori : Words F → Words F → Words F),
    binary main_call0_call0_v81 main_call0_call0_v86 main_call0_call0_v87 (xori : Words F → Words F → Words F) ]
theorem w12_sub : (w12 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w12_fresh : (w12 (F := F)).Forall fun op => op.fresh = ∅ := ⟨rfl, rfl, rfl, rfl, rfl, rfl, rfl, rfl, rfl⟩

/-- Round 11. -/
abbrev w13 : List (HloOp τ sig (Elt F)) :=
  [ binary main_call0_call0_v81 main_call0_call0_v87 main_call0_call0_v88 (addi : Words F → Words F → Words F),
    nullary main_call0_call0_c_22 (constantI S_ 32 26#32),
    unary main_call0_call0_c_22 main_call0_call0_v89 ((broadcastInDim S4096x4096 ![] bcast_S_S4096x4096) : Word F → Words F),
    binary main_call0_call0_v87 main_call0_call0_v89 main_call0_call0_v90 (Host.shli : Words F → Words F → Words F),
    nullary main_call0_call0_c_23 (constantI S_ 32 6#32),
    unary main_call0_call0_c_23 main_call0_call0_v91 ((broadcastInDim S4096x4096 ![] bcast_S_S4096x4096) : Word F → Words F),
    binary main_call0_call0_v87 main_call0_call0_v91 main_call0_call0_v92 (Host.shrui : Words F → Words F → Words F),
    binary main_call0_call0_v90 main_call0_call0_v92 main_call0_call0_v93 (ori : Words F → Words F → Words F),
    binary main_call0_call0_v88 main_call0_call0_v93 main_call0_call0_v94 (xori : Words F → Words F → Words F) ]
theorem w13_sub : (w13 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w13_fresh : (w13 (F := F)).Forall fun op => op.fresh = ∅ := ⟨rfl, rfl, rfl, rfl, rfl, rfl, rfl, rfl, rfl⟩

/-- Round 12. -/
abbrev w14 : List (HloOp τ sig (Elt F)) :=
  [ binary main_call0_call0_v88 main_call0_call0_v94 main_call0_call0_v95 (addi : Words F → Words F → Words F),
    nullary main_call0_call0_c_24 (constantI S_ 32 6#32),
    unary main_call0_call0_c_24 main_call0_call0_v96 ((broadcastInDim S4096x4096 ![] bcast_S_S4096x4096) : Word F → Words F),
    binary main_call0_call0_v94 main_call0_call0_v96 main_call0_call0_v97 (Host.shli : Words F → Words F → Words F),
    nullary main_call0_call0_c_25 (constantI S_ 32 26#32),
    unary main_call0_call0_c_25 main_call0_call0_v98 ((broadcastInDim S4096x4096 ![] bcast_S_S4096x4096) : Word F → Words F),
    binary main_call0_call0_v94 main_call0_call0_v98 main_call0_call0_v99 (Host.shrui : Words F → Words F → Words F),
    binary main_call0_call0_v97 main_call0_call0_v99 main_call0_call0_v100 (ori : Words F → Words F → Words F),
    binary main_call0_call0_v95 main_call0_call0_v100 main_call0_call0_v101 (xori : Words F → Words F → Words F) ]
theorem w14_sub : (w14 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w14_fresh : (w14 (F := F)).Forall fun op => op.fresh = ∅ := ⟨rfl, rfl, rfl, rfl, rfl, rfl, rfl, rfl, rfl⟩

/-- The key added in for the third time. -/
abbrev w15 : List (HloOp τ sig (Elt F)) :=
  [ unary main_call0_v5 main_call0_call0_v102 ((broadcastInDim S4096x4096 ![] bcast_S_S4096x4096) : Word F → Words F),
    binary main_call0_call0_v95 main_call0_call0_v102 main_call0_call0_v103 (addi : Words F → Words F → Words F),
    unary main_call0_v7 main_call0_call0_v104 ((broadcastInDim S4096x4096 ![] bcast_S_S4096x4096) : Word F → Words F),
    binary main_call0_call0_v101 main_call0_call0_v104 main_call0_call0_v105 (addi : Words F → Words F → Words F),
    nullary main_call0_call0_c_26 (constantI S_ 32 3#32),
    unary main_call0_call0_c_26 main_call0_call0_v106 ((broadcastInDim S4096x4096 ![] bcast_S_S4096x4096) : Word F → Words F),
    binary main_call0_call0_v105 main_call0_call0_v106 main_call0_call0_v107 (addi : Words F → Words F → Words F) ]
theorem w15_sub : (w15 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w15_fresh : (w15 (F := F)).Forall fun op => op.fresh = ∅ := ⟨rfl, rfl, rfl, rfl, rfl, rfl, rfl⟩

/-- Round 13. -/
abbrev w16 : List (HloOp τ sig (Elt F)) :=
  [ binary main_call0_call0_v103 main_call0_call0_v107 main_call0_call0_v108 (addi : Words F → Words F → Words F),
    nullary main_call0_call0_c_27 (constantI S_ 32 17#32),
    unary main_call0_call0_c_27 main_call0_call0_v109 ((broadcastInDim S4096x4096 ![] bcast_S_S4096x4096) : Word F → Words F),
    binary main_call0_call0_v107 main_call0_call0_v109 main_call0_call0_v110 (Host.shli : Words F → Words F → Words F),
    nullary main_call0_call0_c_28 (constantI S_ 32 15#32),
    unary main_call0_call0_c_28 main_call0_call0_v111 ((broadcastInDim S4096x4096 ![] bcast_S_S4096x4096) : Word F → Words F),
    binary main_call0_call0_v107 main_call0_call0_v111 main_call0_call0_v112 (Host.shrui : Words F → Words F → Words F),
    binary main_call0_call0_v110 main_call0_call0_v112 main_call0_call0_v113 (ori : Words F → Words F → Words F),
    binary main_call0_call0_v108 main_call0_call0_v113 main_call0_call0_v114 (xori : Words F → Words F → Words F) ]
theorem w16_sub : (w16 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w16_fresh : (w16 (F := F)).Forall fun op => op.fresh = ∅ := ⟨rfl, rfl, rfl, rfl, rfl, rfl, rfl, rfl, rfl⟩

/-- Round 14. -/
abbrev w17 : List (HloOp τ sig (Elt F)) :=
  [ binary main_call0_call0_v108 main_call0_call0_v114 main_call0_call0_v115 (addi : Words F → Words F → Words F),
    nullary main_call0_call0_c_29 (constantI S_ 32 29#32),
    unary main_call0_call0_c_29 main_call0_call0_v116 ((broadcastInDim S4096x4096 ![] bcast_S_S4096x4096) : Word F → Words F),
    binary main_call0_call0_v114 main_call0_call0_v116 main_call0_call0_v117 (Host.shli : Words F → Words F → Words F),
    nullary main_call0_call0_c_30 (constantI S_ 32 3#32),
    unary main_call0_call0_c_30 main_call0_call0_v118 ((broadcastInDim S4096x4096 ![] bcast_S_S4096x4096) : Word F → Words F),
    binary main_call0_call0_v114 main_call0_call0_v118 main_call0_call0_v119 (Host.shrui : Words F → Words F → Words F),
    binary main_call0_call0_v117 main_call0_call0_v119 main_call0_call0_v120 (ori : Words F → Words F → Words F),
    binary main_call0_call0_v115 main_call0_call0_v120 main_call0_call0_v121 (xori : Words F → Words F → Words F) ]
theorem w17_sub : (w17 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w17_fresh : (w17 (F := F)).Forall fun op => op.fresh = ∅ := ⟨rfl, rfl, rfl, rfl, rfl, rfl, rfl, rfl, rfl⟩

/-- Round 15. -/
abbrev w18 : List (HloOp τ sig (Elt F)) :=
  [ binary main_call0_call0_v115 main_call0_call0_v121 main_call0_call0_v122 (addi : Words F → Words F → Words F),
    nullary main_call0_call0_c_31 (constantI S_ 32 16#32),
    unary main_call0_call0_c_31 main_call0_call0_v123 ((broadcastInDim S4096x4096 ![] bcast_S_S4096x4096) : Word F → Words F),
    binary main_call0_call0_v121 main_call0_call0_v123 main_call0_call0_v124 (Host.shli : Words F → Words F → Words F),
    nullary main_call0_call0_c_32 (constantI S_ 32 16#32),
    unary main_call0_call0_c_32 main_call0_call0_v125 ((broadcastInDim S4096x4096 ![] bcast_S_S4096x4096) : Word F → Words F),
    binary main_call0_call0_v121 main_call0_call0_v125 main_call0_call0_v126 (Host.shrui : Words F → Words F → Words F),
    binary main_call0_call0_v124 main_call0_call0_v126 main_call0_call0_v127 (ori : Words F → Words F → Words F),
    binary main_call0_call0_v122 main_call0_call0_v127 main_call0_call0_v128 (xori : Words F → Words F → Words F) ]
theorem w18_sub : (w18 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w18_fresh : (w18 (F := F)).Forall fun op => op.fresh = ∅ := ⟨rfl, rfl, rfl, rfl, rfl, rfl, rfl, rfl, rfl⟩

/-- Round 16. -/
abbrev w19 : List (HloOp τ sig (Elt F)) :=
  [ binary main_call0_call0_v122 main_call0_call0_v128 main_call0_call0_v129 (addi : Words F → Words F → Words F),
    nullary main_call0_call0_c_33 (constantI S_ 32 24#32),
    unary main_call0_call0_c_33 main_call0_call0_v130 ((broadcastInDim S4096x4096 ![] bcast_S_S4096x4096) : Word F → Words F),
    binary main_call0_call0_v128 main_call0_call0_v130 main_call0_call0_v131 (Host.shli : Words F → Words F → Words F),
    nullary main_call0_call0_c_34 (constantI S_ 32 8#32),
    unary main_call0_call0_c_34 main_call0_call0_v132 ((broadcastInDim S4096x4096 ![] bcast_S_S4096x4096) : Word F → Words F),
    binary main_call0_call0_v128 main_call0_call0_v132 main_call0_call0_v133 (Host.shrui : Words F → Words F → Words F),
    binary main_call0_call0_v131 main_call0_call0_v133 main_call0_call0_v134 (ori : Words F → Words F → Words F),
    binary main_call0_call0_v129 main_call0_call0_v134 main_call0_call0_v135 (xori : Words F → Words F → Words F) ]
theorem w19_sub : (w19 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w19_fresh : (w19 (F := F)).Forall fun op => op.fresh = ∅ := ⟨rfl, rfl, rfl, rfl, rfl, rfl, rfl, rfl, rfl⟩

/-- The key added in for the fourth time. -/
abbrev w20 : List (HloOp τ sig (Elt F)) :=
  [ unary main_call0_v7 main_call0_call0_v136 ((broadcastInDim S4096x4096 ![] bcast_S_S4096x4096) : Word F → Words F),
    binary main_call0_call0_v129 main_call0_call0_v136 main_call0_call0_v137 (addi : Words F → Words F → Words F),
    unary main_call0_call0_v1 main_call0_call0_v138 ((broadcastInDim S4096x4096 ![] bcast_S_S4096x4096) : Word F → Words F),
    binary main_call0_call0_v135 main_call0_call0_v138 main_call0_call0_v139 (addi : Words F → Words F → Words F),
    nullary main_call0_call0_c_35 (constantI S_ 32 4#32),
    unary main_call0_call0_c_35 main_call0_call0_v140 ((broadcastInDim S4096x4096 ![] bcast_S_S4096x4096) : Word F → Words F),
    binary main_call0_call0_v139 main_call0_call0_v140 main_call0_call0_v141 (addi : Words F → Words F → Words F) ]
theorem w20_sub : (w20 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w20_fresh : (w20 (F := F)).Forall fun op => op.fresh = ∅ := ⟨rfl, rfl, rfl, rfl, rfl, rfl, rfl⟩

/-- Round 17. -/
abbrev w21 : List (HloOp τ sig (Elt F)) :=
  [ binary main_call0_call0_v137 main_call0_call0_v141 main_call0_call0_v142 (addi : Words F → Words F → Words F),
    nullary main_call0_call0_c_36 (constantI S_ 32 13#32),
    unary main_call0_call0_c_36 main_call0_call0_v143 ((broadcastInDim S4096x4096 ![] bcast_S_S4096x4096) : Word F → Words F),
    binary main_call0_call0_v141 main_call0_call0_v143 main_call0_call0_v144 (Host.shli : Words F → Words F → Words F),
    nullary main_call0_call0_c_37 (constantI S_ 32 19#32),
    unary main_call0_call0_c_37 main_call0_call0_v145 ((broadcastInDim S4096x4096 ![] bcast_S_S4096x4096) : Word F → Words F),
    binary main_call0_call0_v141 main_call0_call0_v145 main_call0_call0_v146 (Host.shrui : Words F → Words F → Words F),
    binary main_call0_call0_v144 main_call0_call0_v146 main_call0_call0_v147 (ori : Words F → Words F → Words F),
    binary main_call0_call0_v142 main_call0_call0_v147 main_call0_call0_v148 (xori : Words F → Words F → Words F) ]
theorem w21_sub : (w21 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w21_fresh : (w21 (F := F)).Forall fun op => op.fresh = ∅ := ⟨rfl, rfl, rfl, rfl, rfl, rfl, rfl, rfl, rfl⟩

/-- Round 18. -/
abbrev w22 : List (HloOp τ sig (Elt F)) :=
  [ binary main_call0_call0_v142 main_call0_call0_v148 main_call0_call0_v149 (addi : Words F → Words F → Words F),
    nullary main_call0_call0_c_38 (constantI S_ 32 15#32),
    unary main_call0_call0_c_38 main_call0_call0_v150 ((broadcastInDim S4096x4096 ![] bcast_S_S4096x4096) : Word F → Words F),
    binary main_call0_call0_v148 main_call0_call0_v150 main_call0_call0_v151 (Host.shli : Words F → Words F → Words F),
    nullary main_call0_call0_c_39 (constantI S_ 32 17#32),
    unary main_call0_call0_c_39 main_call0_call0_v152 ((broadcastInDim S4096x4096 ![] bcast_S_S4096x4096) : Word F → Words F),
    binary main_call0_call0_v148 main_call0_call0_v152 main_call0_call0_v153 (Host.shrui : Words F → Words F → Words F),
    binary main_call0_call0_v151 main_call0_call0_v153 main_call0_call0_v154 (ori : Words F → Words F → Words F),
    binary main_call0_call0_v149 main_call0_call0_v154 main_call0_call0_v155 (xori : Words F → Words F → Words F) ]
theorem w22_sub : (w22 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w22_fresh : (w22 (F := F)).Forall fun op => op.fresh = ∅ := ⟨rfl, rfl, rfl, rfl, rfl, rfl, rfl, rfl, rfl⟩

/-- Round 19. -/
abbrev w23 : List (HloOp τ sig (Elt F)) :=
  [ binary main_call0_call0_v149 main_call0_call0_v155 main_call0_call0_v156 (addi : Words F → Words F → Words F),
    nullary main_call0_call0_c_40 (constantI S_ 32 26#32),
    unary main_call0_call0_c_40 main_call0_call0_v157 ((broadcastInDim S4096x4096 ![] bcast_S_S4096x4096) : Word F → Words F),
    binary main_call0_call0_v155 main_call0_call0_v157 main_call0_call0_v158 (Host.shli : Words F → Words F → Words F),
    nullary main_call0_call0_c_41 (constantI S_ 32 6#32),
    unary main_call0_call0_c_41 main_call0_call0_v159 ((broadcastInDim S4096x4096 ![] bcast_S_S4096x4096) : Word F → Words F),
    binary main_call0_call0_v155 main_call0_call0_v159 main_call0_call0_v160 (Host.shrui : Words F → Words F → Words F),
    binary main_call0_call0_v158 main_call0_call0_v160 main_call0_call0_v161 (ori : Words F → Words F → Words F),
    binary main_call0_call0_v156 main_call0_call0_v161 main_call0_call0_v162 (xori : Words F → Words F → Words F) ]
theorem w23_sub : (w23 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w23_fresh : (w23 (F := F)).Forall fun op => op.fresh = ∅ := ⟨rfl, rfl, rfl, rfl, rfl, rfl, rfl, rfl, rfl⟩

/-- Round 20. -/
abbrev w24 : List (HloOp τ sig (Elt F)) :=
  [ binary main_call0_call0_v156 main_call0_call0_v162 main_call0_call0_v163 (addi : Words F → Words F → Words F),
    nullary main_call0_call0_c_42 (constantI S_ 32 6#32),
    unary main_call0_call0_c_42 main_call0_call0_v164 ((broadcastInDim S4096x4096 ![] bcast_S_S4096x4096) : Word F → Words F),
    binary main_call0_call0_v162 main_call0_call0_v164 main_call0_call0_v165 (Host.shli : Words F → Words F → Words F),
    nullary main_call0_call0_c_43 (constantI S_ 32 26#32),
    unary main_call0_call0_c_43 main_call0_call0_v166 ((broadcastInDim S4096x4096 ![] bcast_S_S4096x4096) : Word F → Words F),
    binary main_call0_call0_v162 main_call0_call0_v166 main_call0_call0_v167 (Host.shrui : Words F → Words F → Words F),
    binary main_call0_call0_v165 main_call0_call0_v167 main_call0_call0_v168 (ori : Words F → Words F → Words F),
    binary main_call0_call0_v163 main_call0_call0_v168 main_call0_call0_v169 (xori : Words F → Words F → Words F) ]
theorem w24_sub : (w24 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w24_fresh : (w24 (F := F)).Forall fun op => op.fresh = ∅ := ⟨rfl, rfl, rfl, rfl, rfl, rfl, rfl, rfl, rfl⟩

/-- The key added in for the fifth time. -/
abbrev w25 : List (HloOp τ sig (Elt F)) :=
  [ unary main_call0_call0_v1 main_call0_call0_v170 ((broadcastInDim S4096x4096 ![] bcast_S_S4096x4096) : Word F → Words F),
    binary main_call0_call0_v163 main_call0_call0_v170 main_call0_v19_0 (addi : Words F → Words F → Words F),
    unary main_call0_v5 main_call0_call0_v172 ((broadcastInDim S4096x4096 ![] bcast_S_S4096x4096) : Word F → Words F),
    binary main_call0_call0_v169 main_call0_call0_v172 main_call0_call0_v173 (addi : Words F → Words F → Words F),
    nullary main_call0_call0_c_44 (constantI S_ 32 5#32),
    unary main_call0_call0_c_44 main_call0_call0_v174 ((broadcastInDim S4096x4096 ![] bcast_S_S4096x4096) : Word F → Words F),
    binary main_call0_call0_v173 main_call0_call0_v174 main_call0_v19_1 (addi : Words F → Words F → Words F) ]
theorem w25_sub : (w25 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w25_fresh : (w25 (F := F)).Forall fun op => op.fresh = ∅ := ⟨rfl, rfl, rfl, rfl, rfl, rfl, rfl⟩

/-- The number drawn from the two words. -/
abbrev wUni : List (HloOp τ sig (Elt F)) :=
  [ binary main_call0_v19_0 main_call0_v19_1 main_call0_v20 (xori : Words F → Words F → Words F),
    nullary main_call0_c_2 (constantI S_ 32 9#32),
    unary main_call0_c_2 main_call0_v21 ((broadcastInDim S4096x4096 ![] bcast_S_S4096x4096) : Word F → Words F),
    binary main_call0_v20 main_call0_v21 main_call0_v22 (Host.shrui : Words F → Words F → Words F),
    nullary main_call0_c_3 (constantI S_ 32 1065353216#32),
    unary main_call0_c_3 main_call0_v23 ((broadcastInDim S4096x4096 ![] bcast_S_S4096x4096) : Word F → Words F),
    binary main_call0_v22 main_call0_v23 main_call0_v24 (ori : Words F → Words F → Words F),
    unary main_call0_v24 main_call0_v25 ((bitcastToFloat .f32) : Words F → Nums F),
    nullary main_call0_cst (constant S_ .f32 0x3F800000#32),
    unary main_call0_cst main_call0_v26 ((broadcastInDim S4096x4096 ![] bcast_S_S4096x4096) : (⟨S_, .f32⟩ : BufTy).Contents (Elt F) → Nums F),
    binary main_call0_v25 main_call0_v26 main_call0_v27 (subf : Nums F → Nums F → Nums F),
    binary main_call0_v3 main_call0_v2 main_call0_v28 (subf : (⟨S1x1, .f32⟩ : BufTy).Contents (Elt F) → (⟨S1x1, .f32⟩ : BufTy).Contents (Elt F) → (⟨S1x1, .f32⟩ : BufTy).Contents (Elt F)),
    unary main_call0_v28 main_call0_v29 ((broadcastInDim S4096x4096 ![0, 1] bcast_S1x1_S4096x4096_0_1) : (⟨S1x1, .f32⟩ : BufTy).Contents (Elt F) → Nums F),
    binary main_call0_v27 main_call0_v29 main_call0_v30 (mulf : Nums F → Nums F → Nums F),
    unary main_call0_v2 main_call0_v31 ((broadcastInDim S4096x4096 ![0, 1] bcast_S1x1_S4096x4096_0_1) : (⟨S1x1, .f32⟩ : BufTy).Contents (Elt F) → Nums F),
    binary main_call0_v30 main_call0_v31 main_call0_v32 (addf : Nums F → Nums F → Nums F),
    unary main_call0_v2 main_call0_v33 ((broadcastInDim S4096x4096 ![0, 1] bcast_S1x1_S4096x4096_0_1) : (⟨S1x1, .f32⟩ : BufTy).Contents (Elt F) → Nums F),
    binary main_call0_v33 main_call0_v32 main_v11 (maximumf : Nums F → Nums F → Nums F) ]
theorem wUni_sub : (wUni (F := F)).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩
theorem wUni_fresh : (wUni (F := F)).Forall fun op => op.fresh = ∅ := ⟨rfl, rfl, rfl, rfl, rfl, rfl, rfl, rfl, rfl, rfl, rfl, rfl, rfl, rfl, rfl, rfl, rfl, rfl⟩

/-- The comparison. -/
abbrev wCmp : List (HloOp τ sig (Elt F)) :=
  [ binary main_v11 main_v3 main_v12 (cmpf .olt : Nums F → Nums F → (⟨S4096x4096, .i1⟩ : BufTy).Contents (Elt F)),
    unary main_v12 main_v13 ((extui 32 · natLt_1_32) : (⟨S4096x4096, .i1⟩ : BufTy).Contents (Elt F) → Words F) ]
theorem wCmp_sub : (wCmp (F := F)).Forall fun op => op.bufs ⊆ tcRefs τ sig :=
  ⟨binary_bufs_sub .., unary_bufs_sub ..⟩
theorem wCmp_fresh : (wCmp (F := F)).Forall fun op => op.fresh = ∅ := ⟨rfl, rfl⟩

/-- The entries on and above the diagonal. -/
abbrev wTri : List (HloOp τ sig (Elt F)) :=
  [ nullary main_call1_v0 (iotaInDim S4096x4096 32 0),
    nullary main_call1_c (constantI S_ 32 4294967295#32),
    unary main_call1_c main_call1_v1 ((broadcastInDim S4096x4096 ![] bcast_S_S4096x4096) : Word F → Words F),
    binary main_call1_v0 main_call1_v1 main_call1_v2 (addi : Words F → Words F → Words F),
    nullary main_call1_v3 (iotaInDim S4096x4096 32 1),
    binary main_call1_v2 main_call1_v3 main_call1_v4 ((cmpi .sge) : Words F → Words F → (⟨S4096x4096, .i1⟩ : BufTy).Contents (Elt F)),
    nullary main_call1_c_0 (constantI S_ 32 0#32),
    unary main_call1_c_0 main_call1_v5 ((broadcastInDim S4096x4096 ![] bcast_S_S4096x4096) : Word F → Words F),
    ternary main_call1_v4 main_call1_v5 main_v13 main_v14 (select : (⟨S4096x4096, .i1⟩ : BufTy).Contents (Elt F) → Words F → Words F → Words F) ]
theorem wTri_sub : (wTri (F := F)).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., ternary_bufs_sub ..⟩
theorem wTri_fresh : (wTri (F := F)).Forall fun op => op.fresh = ∅ := ⟨rfl, rfl, rfl, rfl, rfl, rfl, rfl, rfl, rfl⟩

/-- The entries above the diagonal. -/
abbrev wTriS : List (HloOp τ sig (Elt F)) :=
  [ nullary main_call2_v0 (iotaInDim S4096x4096 32 0),
    nullary main_call2_c (constantI S_ 32 0#32),
    unary main_call2_c main_call2_v1 ((broadcastInDim S4096x4096 ![] bcast_S_S4096x4096) : Word F → Words F),
    binary main_call2_v0 main_call2_v1 main_call2_v2 (addi : Words F → Words F → Words F),
    nullary main_call2_v3 (iotaInDim S4096x4096 32 1),
    binary main_call2_v2 main_call2_v3 main_call2_v4 ((cmpi .sge) : Words F → Words F → (⟨S4096x4096, .i1⟩ : BufTy).Contents (Elt F)),
    nullary main_call2_c_0 (constantI S_ 32 0#32),
    unary main_call2_c_0 main_call2_v5 ((broadcastInDim S4096x4096 ![] bcast_S_S4096x4096) : Word F → Words F),
    ternary main_call2_v4 main_call2_v5 main_v13 main_v15 (select : (⟨S4096x4096, .i1⟩ : BufTy).Contents (Elt F) → Words F → Words F → Words F) ]
theorem wTriS_sub : (wTriS (F := F)).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., ternary_bufs_sub ..⟩
theorem wTriS_fresh : (wTriS (F := F)).Forall fun op => op.fresh = ∅ := ⟨rfl, rfl, rfl, rfl, rfl, rfl, rfl, rfl, rfl⟩

/-- The sum with the transpose. -/
abbrev wSum : List (HloOp τ sig (Elt F)) :=
  [ unary main_v15 main_v16 ((transpose S4096x4096 [1, 0] · transposes_S4096x4096_S4096x4096_1_0) : Words F → Words F),
    binary main_v14 main_v16 main_v17 (addi : Words F → Words F → Words F) ]
theorem wSum_sub : (wSum (F := F)).Forall fun op => op.bufs ⊆ tcRefs τ sig :=
  ⟨unary_bufs_sub .., binary_bufs_sub ..⟩
theorem wSum_fresh : (wSum (F := F)).Forall fun op => op.fresh = ∅ := ⟨rfl, rfl⟩

/-! ## The rounds, from each of them to the last -/

abbrev r25 : List (HloOp τ sig (Elt F)) := w25
abbrev r24 : List (HloOp τ sig (Elt F)) := w24 ++ r25
abbrev r23 : List (HloOp τ sig (Elt F)) := w23 ++ r24
abbrev r22 : List (HloOp τ sig (Elt F)) := w22 ++ r23
abbrev r21 : List (HloOp τ sig (Elt F)) := w21 ++ r22
abbrev r20 : List (HloOp τ sig (Elt F)) := w20 ++ r21
abbrev r19 : List (HloOp τ sig (Elt F)) := w19 ++ r20
abbrev r18 : List (HloOp τ sig (Elt F)) := w18 ++ r19
abbrev r17 : List (HloOp τ sig (Elt F)) := w17 ++ r18
abbrev r16 : List (HloOp τ sig (Elt F)) := w16 ++ r17
abbrev r15 : List (HloOp τ sig (Elt F)) := w15 ++ r16
abbrev r14 : List (HloOp τ sig (Elt F)) := w14 ++ r15
abbrev r13 : List (HloOp τ sig (Elt F)) := w13 ++ r14
abbrev r12 : List (HloOp τ sig (Elt F)) := w12 ++ r13
abbrev r11 : List (HloOp τ sig (Elt F)) := w11 ++ r12
abbrev r10 : List (HloOp τ sig (Elt F)) := w10 ++ r11
abbrev r9 : List (HloOp τ sig (Elt F)) := w9 ++ r10
abbrev r8 : List (HloOp τ sig (Elt F)) := w8 ++ r9
abbrev r7 : List (HloOp τ sig (Elt F)) := w7 ++ r8
abbrev r6 : List (HloOp τ sig (Elt F)) := w6 ++ r7
abbrev r5 : List (HloOp τ sig (Elt F)) := w5 ++ r6
abbrev r4 : List (HloOp τ sig (Elt F)) := w4 ++ r5
abbrev r3 : List (HloOp τ sig (Elt F)) := w3 ++ r4
abbrev r2 : List (HloOp τ sig (Elt F)) := w2 ++ r3
abbrev r1 : List (HloOp τ sig (Elt F)) := w1 ++ r2
abbrev r0 : List (HloOp τ sig (Elt F)) := w0 ++ r1
theorem r25_sub : (r25 (F := F)).Forall fun op => op.bufs ⊆ tcRefs τ sig := w25_sub
theorem r25_fresh : (r25 (F := F)).Forall fun op => op.fresh = ∅ := w25_fresh
theorem r24_sub : (r24 (F := F)).Forall fun op => op.bufs ⊆ tcRefs τ sig := List.forall_append.mpr ⟨w24_sub, r25_sub⟩
theorem r24_fresh : (r24 (F := F)).Forall fun op => op.fresh = ∅ := List.forall_append.mpr ⟨w24_fresh, r25_fresh⟩
theorem r23_sub : (r23 (F := F)).Forall fun op => op.bufs ⊆ tcRefs τ sig := List.forall_append.mpr ⟨w23_sub, r24_sub⟩
theorem r23_fresh : (r23 (F := F)).Forall fun op => op.fresh = ∅ := List.forall_append.mpr ⟨w23_fresh, r24_fresh⟩
theorem r22_sub : (r22 (F := F)).Forall fun op => op.bufs ⊆ tcRefs τ sig := List.forall_append.mpr ⟨w22_sub, r23_sub⟩
theorem r22_fresh : (r22 (F := F)).Forall fun op => op.fresh = ∅ := List.forall_append.mpr ⟨w22_fresh, r23_fresh⟩
theorem r21_sub : (r21 (F := F)).Forall fun op => op.bufs ⊆ tcRefs τ sig := List.forall_append.mpr ⟨w21_sub, r22_sub⟩
theorem r21_fresh : (r21 (F := F)).Forall fun op => op.fresh = ∅ := List.forall_append.mpr ⟨w21_fresh, r22_fresh⟩
theorem r20_sub : (r20 (F := F)).Forall fun op => op.bufs ⊆ tcRefs τ sig := List.forall_append.mpr ⟨w20_sub, r21_sub⟩
theorem r20_fresh : (r20 (F := F)).Forall fun op => op.fresh = ∅ := List.forall_append.mpr ⟨w20_fresh, r21_fresh⟩
theorem r19_sub : (r19 (F := F)).Forall fun op => op.bufs ⊆ tcRefs τ sig := List.forall_append.mpr ⟨w19_sub, r20_sub⟩
theorem r19_fresh : (r19 (F := F)).Forall fun op => op.fresh = ∅ := List.forall_append.mpr ⟨w19_fresh, r20_fresh⟩
theorem r18_sub : (r18 (F := F)).Forall fun op => op.bufs ⊆ tcRefs τ sig := List.forall_append.mpr ⟨w18_sub, r19_sub⟩
theorem r18_fresh : (r18 (F := F)).Forall fun op => op.fresh = ∅ := List.forall_append.mpr ⟨w18_fresh, r19_fresh⟩
theorem r17_sub : (r17 (F := F)).Forall fun op => op.bufs ⊆ tcRefs τ sig := List.forall_append.mpr ⟨w17_sub, r18_sub⟩
theorem r17_fresh : (r17 (F := F)).Forall fun op => op.fresh = ∅ := List.forall_append.mpr ⟨w17_fresh, r18_fresh⟩
theorem r16_sub : (r16 (F := F)).Forall fun op => op.bufs ⊆ tcRefs τ sig := List.forall_append.mpr ⟨w16_sub, r17_sub⟩
theorem r16_fresh : (r16 (F := F)).Forall fun op => op.fresh = ∅ := List.forall_append.mpr ⟨w16_fresh, r17_fresh⟩
theorem r15_sub : (r15 (F := F)).Forall fun op => op.bufs ⊆ tcRefs τ sig := List.forall_append.mpr ⟨w15_sub, r16_sub⟩
theorem r15_fresh : (r15 (F := F)).Forall fun op => op.fresh = ∅ := List.forall_append.mpr ⟨w15_fresh, r16_fresh⟩
theorem r14_sub : (r14 (F := F)).Forall fun op => op.bufs ⊆ tcRefs τ sig := List.forall_append.mpr ⟨w14_sub, r15_sub⟩
theorem r14_fresh : (r14 (F := F)).Forall fun op => op.fresh = ∅ := List.forall_append.mpr ⟨w14_fresh, r15_fresh⟩
theorem r13_sub : (r13 (F := F)).Forall fun op => op.bufs ⊆ tcRefs τ sig := List.forall_append.mpr ⟨w13_sub, r14_sub⟩
theorem r13_fresh : (r13 (F := F)).Forall fun op => op.fresh = ∅ := List.forall_append.mpr ⟨w13_fresh, r14_fresh⟩
theorem r12_sub : (r12 (F := F)).Forall fun op => op.bufs ⊆ tcRefs τ sig := List.forall_append.mpr ⟨w12_sub, r13_sub⟩
theorem r12_fresh : (r12 (F := F)).Forall fun op => op.fresh = ∅ := List.forall_append.mpr ⟨w12_fresh, r13_fresh⟩
theorem r11_sub : (r11 (F := F)).Forall fun op => op.bufs ⊆ tcRefs τ sig := List.forall_append.mpr ⟨w11_sub, r12_sub⟩
theorem r11_fresh : (r11 (F := F)).Forall fun op => op.fresh = ∅ := List.forall_append.mpr ⟨w11_fresh, r12_fresh⟩
theorem r10_sub : (r10 (F := F)).Forall fun op => op.bufs ⊆ tcRefs τ sig := List.forall_append.mpr ⟨w10_sub, r11_sub⟩
theorem r10_fresh : (r10 (F := F)).Forall fun op => op.fresh = ∅ := List.forall_append.mpr ⟨w10_fresh, r11_fresh⟩
theorem r9_sub : (r9 (F := F)).Forall fun op => op.bufs ⊆ tcRefs τ sig := List.forall_append.mpr ⟨w9_sub, r10_sub⟩
theorem r9_fresh : (r9 (F := F)).Forall fun op => op.fresh = ∅ := List.forall_append.mpr ⟨w9_fresh, r10_fresh⟩
theorem r8_sub : (r8 (F := F)).Forall fun op => op.bufs ⊆ tcRefs τ sig := List.forall_append.mpr ⟨w8_sub, r9_sub⟩
theorem r8_fresh : (r8 (F := F)).Forall fun op => op.fresh = ∅ := List.forall_append.mpr ⟨w8_fresh, r9_fresh⟩
theorem r7_sub : (r7 (F := F)).Forall fun op => op.bufs ⊆ tcRefs τ sig := List.forall_append.mpr ⟨w7_sub, r8_sub⟩
theorem r7_fresh : (r7 (F := F)).Forall fun op => op.fresh = ∅ := List.forall_append.mpr ⟨w7_fresh, r8_fresh⟩
theorem r6_sub : (r6 (F := F)).Forall fun op => op.bufs ⊆ tcRefs τ sig := List.forall_append.mpr ⟨w6_sub, r7_sub⟩
theorem r6_fresh : (r6 (F := F)).Forall fun op => op.fresh = ∅ := List.forall_append.mpr ⟨w6_fresh, r7_fresh⟩
theorem r5_sub : (r5 (F := F)).Forall fun op => op.bufs ⊆ tcRefs τ sig := List.forall_append.mpr ⟨w5_sub, r6_sub⟩
theorem r5_fresh : (r5 (F := F)).Forall fun op => op.fresh = ∅ := List.forall_append.mpr ⟨w5_fresh, r6_fresh⟩
theorem r4_sub : (r4 (F := F)).Forall fun op => op.bufs ⊆ tcRefs τ sig := List.forall_append.mpr ⟨w4_sub, r5_sub⟩
theorem r4_fresh : (r4 (F := F)).Forall fun op => op.fresh = ∅ := List.forall_append.mpr ⟨w4_fresh, r5_fresh⟩
theorem r3_sub : (r3 (F := F)).Forall fun op => op.bufs ⊆ tcRefs τ sig := List.forall_append.mpr ⟨w3_sub, r4_sub⟩
theorem r3_fresh : (r3 (F := F)).Forall fun op => op.fresh = ∅ := List.forall_append.mpr ⟨w3_fresh, r4_fresh⟩
theorem r2_sub : (r2 (F := F)).Forall fun op => op.bufs ⊆ tcRefs τ sig := List.forall_append.mpr ⟨w2_sub, r3_sub⟩
theorem r2_fresh : (r2 (F := F)).Forall fun op => op.fresh = ∅ := List.forall_append.mpr ⟨w2_fresh, r3_fresh⟩
theorem r1_sub : (r1 (F := F)).Forall fun op => op.bufs ⊆ tcRefs τ sig := List.forall_append.mpr ⟨w1_sub, r2_sub⟩
theorem r1_fresh : (r1 (F := F)).Forall fun op => op.fresh = ∅ := List.forall_append.mpr ⟨w1_fresh, r2_fresh⟩
theorem r0_sub : (r0 (F := F)).Forall fun op => op.bufs ⊆ tcRefs τ sig := List.forall_append.mpr ⟨w0_sub, r1_sub⟩
theorem r0_fresh : (r0 (F := F)).Forall fun op => op.fresh = ∅ := List.forall_append.mpr ⟨w0_fresh, r1_fresh⟩

/-- The whole line. -/
abbrev ops : List (HloOp τ sig (Elt F)) :=
  wDen ++ (wKey ++ (wLim ++ (wKeys ++ (wIdx ++ (r0 ++ (wUni ++ (wCmp ++ (wTri ++ (wTriS ++ (wSum))))))))))
theorem ops_sub : (ops (F := F)).Forall fun op => op.bufs ⊆ tcRefs τ sig :=
  List.forall_append.mpr ⟨wDen_sub, List.forall_append.mpr ⟨wKey_sub, List.forall_append.mpr ⟨wLim_sub, List.forall_append.mpr ⟨wKeys_sub, List.forall_append.mpr ⟨wIdx_sub, List.forall_append.mpr ⟨r0_sub, List.forall_append.mpr ⟨wUni_sub, List.forall_append.mpr ⟨wCmp_sub, List.forall_append.mpr ⟨wTri_sub, List.forall_append.mpr ⟨wTriS_sub, wSum_sub⟩⟩⟩⟩⟩⟩⟩⟩⟩⟩
theorem ops_fresh : (ops (F := F)).Forall fun op => op.fresh = ∅ :=
  List.forall_append.mpr ⟨wDen_fresh, List.forall_append.mpr ⟨wKey_fresh, List.forall_append.mpr ⟨wLim_fresh, List.forall_append.mpr ⟨wKeys_fresh, List.forall_append.mpr ⟨wIdx_fresh, List.forall_append.mpr ⟨r0_fresh, List.forall_append.mpr ⟨wUni_fresh, List.forall_append.mpr ⟨wCmp_fresh, List.forall_append.mpr ⟨wTri_fresh, List.forall_append.mpr ⟨wTriS_fresh, wSum_fresh⟩⟩⟩⟩⟩⟩⟩⟩⟩⟩

set_option maxHeartbeats 1000000 in
/-- The program is that line. -/
theorem main_eq (c : Dev nD) : main (F := F) c = seq ops := rfl

end Cert.ReferenceIdeal.Sym

end
-- ==== Proof.ReferenceIdeal.Rounds.lean ====
/- The rounds of the generator, piece by piece, as functions of the two words. -/
module

public import proofs.«01_k».proof.Proof.ReferenceIdeal.Ops

@[expose] public section

set_option maxRecDepth 16384

noncomputable section

namespace Cert.ReferenceIdeal.Sym

open Idealize.ShloMosaic Idealize.ShloMosaic.TcCoe Idealize.ShloMosaic.StableHlo
open Idealize.SL.Sem
open Cert.ReferenceIdeal.Gen

variable {F : FTy → Type} [FloatOps F]

/-! ## The pieces as functions of whole arrays -/

/-- A word, everywhere. -/
abbrev all (k : Word F) : Words F := broadcastInDim S4096x4096 ![] bcast_S_S4096x4096 k
/-- One round: the sum, and the second word turned by `r1` (`r2` being the rest of 32) against it. -/
def mixV (r1 r2 : BitVec 32) (s : Words F × Words F) : Words F × Words F :=
  (addi s.1 s.2, xori (addi s.1 s.2) (ori (Host.shli s.2 (all (F := F) (constantI S_ 32 r1))) (Host.shrui s.2 (all (F := F) (constantI S_ 32 r2)))))
/-- Two words of the key and the count added in. -/
def injV (k k' : Word F) (n : BitVec 32) (s : Words F × Words F) : Words F × Words F :=
  (addi s.1 (all (F := F) k), addi (addi s.2 (all (F := F) k')) (all (F := F) (constantI S_ 32 n)))
/-- The third word of the key. -/
def key3 (k k' : Word F) : Word F := xori (xori k k') (constantI S_ 32 466688986#32)
/-- The two words with the key added in. -/
def iniV (k k' : Word F) (s : Words F × Words F) : Words F × Words F := (addi s.1 (all (F := F) k), addi s.2 (all (F := F) k'))

/-! ## What each piece leaves -/

theorem w0_run (V : Valuation τ sig (Elt F)) :
    (after w0 V ↑main_call0_call0_v3 = (iniV (F := F) (V ↑main_call0_v5) (V ↑main_call0_v7) (V ↑main_call0_v18, V ↑main_call0_v17)).1
    ∧ after w0 V ↑main_call0_call0_v5 = (iniV (F := F) (V ↑main_call0_v5) (V ↑main_call0_v7) (V ↑main_call0_v18, V ↑main_call0_v17)).2)
    ∧ after w0 V ↑main_call0_v5 = V ↑main_call0_v5 ∧ after w0 V ↑main_call0_v7 = V ↑main_call0_v7 ∧ after w0 V ↑main_call0_call0_v1 = key3 (F := F) (V ↑main_call0_v5) (V ↑main_call0_v7) := by
  refine ⟨⟨?_, ?_⟩, ?_, ?_, ?_⟩ <;> after_results_simp <;> rfl
theorem w1_run (V : Valuation τ sig (Elt F)) :
    (after w1 V ↑main_call0_call0_v6 = (mixV (F := F) 13#32 19#32 (V ↑main_call0_call0_v3, V ↑main_call0_call0_v5)).1
    ∧ after w1 V ↑main_call0_call0_v12 = (mixV (F := F) 13#32 19#32 (V ↑main_call0_call0_v3, V ↑main_call0_call0_v5)).2)
    ∧ after w1 V ↑main_call0_v5 = V ↑main_call0_v5 ∧ after w1 V ↑main_call0_v7 = V ↑main_call0_v7 ∧ after w1 V ↑main_call0_call0_v1 = V ↑main_call0_call0_v1 := by
  refine ⟨⟨?_, ?_⟩, ?_, ?_, ?_⟩ <;> after_results_simp <;> rfl
theorem w2_run (V : Valuation τ sig (Elt F)) :
    (after w2 V ↑main_call0_call0_v13 = (mixV (F := F) 15#32 17#32 (V ↑main_call0_call0_v6, V ↑main_call0_call0_v12)).1
    ∧ after w2 V ↑main_call0_call0_v19 = (mixV (F := F) 15#32 17#32 (V ↑main_call0_call0_v6, V ↑main_call0_call0_v12)).2)
    ∧ after w2 V ↑main_call0_v5 = V ↑main_call0_v5 ∧ after w2 V ↑main_call0_v7 = V ↑main_call0_v7 ∧ after w2 V ↑main_call0_call0_v1 = V ↑main_call0_call0_v1 := by
  refine ⟨⟨?_, ?_⟩, ?_, ?_, ?_⟩ <;> after_results_simp <;> rfl
theorem w3_run (V : Valuation τ sig (Elt F)) :
    (after w3 V ↑main_call0_call0_v20 = (mixV (F := F) 26#32 6#32 (V ↑main_call0_call0_v13, V ↑main_call0_call0_v19)).1
    ∧ after w3 V ↑main_call0_call0_v26 = (mixV (F := F) 26#32 6#32 (V ↑main_call0_call0_v13, V ↑main_call0_call0_v19)).2)
    ∧ after w3 V ↑main_call0_v5 = V ↑main_call0_v5 ∧ after w3 V ↑main_call0_v7 = V ↑main_call0_v7 ∧ after w3 V ↑main_call0_call0_v1 = V ↑main_call0_call0_v1 := by
  refine ⟨⟨?_, ?_⟩, ?_, ?_, ?_⟩ <;> after_results_simp <;> rfl
theorem w4_run (V : Valuation τ sig (Elt F)) :
    (after w4 V ↑main_call0_call0_v27 = (mixV (F := F) 6#32 26#32 (V ↑main_call0_call0_v20, V ↑main_call0_call0_v26)).1
    ∧ after w4 V ↑main_call0_call0_v33 = (mixV (F := F) 6#32 26#32 (V ↑main_call0_call0_v20, V ↑main_call0_call0_v26)).2)
    ∧ after w4 V ↑main_call0_v5 = V ↑main_call0_v5 ∧ after w4 V ↑main_call0_v7 = V ↑main_call0_v7 ∧ after w4 V ↑main_call0_call0_v1 = V ↑main_call0_call0_v1 := by
  refine ⟨⟨?_, ?_⟩, ?_, ?_, ?_⟩ <;> after_results_simp <;> rfl
theorem w5_run (V : Valuation τ sig (Elt F)) :
    (after w5 V ↑main_call0_call0_v35 = (injV (F := F) (V ↑main_call0_v7) (V ↑main_call0_call0_v1) 1#32 (V ↑main_call0_call0_v27, V ↑main_call0_call0_v33)).1
    ∧ after w5 V ↑main_call0_call0_v39 = (injV (F := F) (V ↑main_call0_v7) (V ↑main_call0_call0_v1) 1#32 (V ↑main_call0_call0_v27, V ↑main_call0_call0_v33)).2)
    ∧ after w5 V ↑main_call0_v5 = V ↑main_call0_v5 ∧ after w5 V ↑main_call0_v7 = V ↑main_call0_v7 ∧ after w5 V ↑main_call0_call0_v1 = V ↑main_call0_call0_v1 := by
  refine ⟨⟨?_, ?_⟩, ?_, ?_, ?_⟩ <;> after_results_simp <;> rfl
theorem w6_run (V : Valuation τ sig (Elt F)) :
    (after w6 V ↑main_call0_call0_v40 = (mixV (F := F) 17#32 15#32 (V ↑main_call0_call0_v35, V ↑main_call0_call0_v39)).1
    ∧ after w6 V ↑main_call0_call0_v46 = (mixV (F := F) 17#32 15#32 (V ↑main_call0_call0_v35, V ↑main_call0_call0_v39)).2)
    ∧ after w6 V ↑main_call0_v5 = V ↑main_call0_v5 ∧ after w6 V ↑main_call0_v7 = V ↑main_call0_v7 ∧ after w6 V ↑main_call0_call0_v1 = V ↑main_call0_call0_v1 := by
  refine ⟨⟨?_, ?_⟩, ?_, ?_, ?_⟩ <;> after_results_simp <;> rfl
theorem w7_run (V : Valuation τ sig (Elt F)) :
    (after w7 V ↑main_call0_call0_v47 = (mixV (F := F) 29#32 3#32 (V ↑main_call0_call0_v40, V ↑main_call0_call0_v46)).1
    ∧ after w7 V ↑main_call0_call0_v53 = (mixV (F := F) 29#32 3#32 (V ↑main_call0_call0_v40, V ↑main_call0_call0_v46)).2)
    ∧ after w7 V ↑main_call0_v5 = V ↑main_call0_v5 ∧ after w7 V ↑main_call0_v7 = V ↑main_call0_v7 ∧ after w7 V ↑main_call0_call0_v1 = V ↑main_call0_call0_v1 := by
  refine ⟨⟨?_, ?_⟩, ?_, ?_, ?_⟩ <;> after_results_simp <;> rfl
theorem w8_run (V : Valuation τ sig (Elt F)) :
    (after w8 V ↑main_call0_call0_v54 = (mixV (F := F) 16#32 16#32 (V ↑main_call0_call0_v47, V ↑main_call0_call0_v53)).1
    ∧ after w8 V ↑main_call0_call0_v60 = (mixV (F := F) 16#32 16#32 (V ↑main_call0_call0_v47, V ↑main_call0_call0_v53)).2)
    ∧ after w8 V ↑main_call0_v5 = V ↑main_call0_v5 ∧ after w8 V ↑main_call0_v7 = V ↑main_call0_v7 ∧ after w8 V ↑main_call0_call0_v1 = V ↑main_call0_call0_v1 := by
  refine ⟨⟨?_, ?_⟩, ?_, ?_, ?_⟩ <;> after_results_simp <;> rfl
theorem w9_run (V : Valuation τ sig (Elt F)) :
    (after w9 V ↑main_call0_call0_v61 = (mixV (F := F) 24#32 8#32 (V ↑main_call0_call0_v54, V ↑main_call0_call0_v60)).1
    ∧ after w9 V ↑main_call0_call0_v67 = (mixV (F := F) 24#32 8#32 (V ↑main_call0_call0_v54, V ↑main_call0_call0_v60)).2)
    ∧ after w9 V ↑main_call0_v5 = V ↑main_call0_v5 ∧ after w9 V ↑main_call0_v7 = V ↑main_call0_v7 ∧ after w9 V ↑main_call0_call0_v1 = V ↑main_call0_call0_v1 := by
  refine ⟨⟨?_, ?_⟩, ?_, ?_, ?_⟩ <;> after_results_simp <;> rfl
theorem w10_run (V : Valuation τ sig (Elt F)) :
    (after w10 V ↑main_call0_call0_v69 = (injV (F := F) (V ↑main_call0_call0_v1) (V ↑main_call0_v5) 2#32 (V ↑main_call0_call0_v61, V ↑main_call0_call0_v67)).1
    ∧ after w10 V ↑main_call0_call0_v73 = (injV (F := F) (V ↑main_call0_call0_v1) (V ↑main_call0_v5) 2#32 (V ↑main_call0_call0_v61, V ↑main_call0_call0_v67)).2)
    ∧ after w10 V ↑main_call0_v5 = V ↑main_call0_v5 ∧ after w10 V ↑main_call0_v7 = V ↑main_call0_v7 ∧ after w10 V ↑main_call0_call0_v1 = V ↑main_call0_call0_v1 := by
  refine ⟨⟨?_, ?_⟩, ?_, ?_, ?_⟩ <;> after_results_simp <;> rfl
theorem w11_run (V : Valuation τ sig (Elt F)) :
    (after w11 V ↑main_call0_call0_v74 = (mixV (F := F) 13#32 19#32 (V ↑main_call0_call0_v69, V ↑main_call0_call0_v73)).1
    ∧ after w11 V ↑main_call0_call0_v80 = (mixV (F := F) 13#32 19#32 (V ↑main_call0_call0_v69, V ↑main_call0_call0_v73)).2)
    ∧ after w11 V ↑main_call0_v5 = V ↑main_call0_v5 ∧ after w11 V ↑main_call0_v7 = V ↑main_call0_v7 ∧ after w11 V ↑main_call0_call0_v1 = V ↑main_call0_call0_v1 := by
  refine ⟨⟨?_, ?_⟩, ?_, ?_, ?_⟩ <;> after_results_simp <;> rfl
theorem w12_run (V : Valuation τ sig (Elt F)) :
    (after w12 V ↑main_call0_call0_v81 = (mixV (F := F) 15#32 17#32 (V ↑main_call0_call0_v74, V ↑main_call0_call0_v80)).1
    ∧ after w12 V ↑main_call0_call0_v87 = (mixV (F := F) 15#32 17#32 (V ↑main_call0_call0_v74, V ↑main_call0_call0_v80)).2)
    ∧ after w12 V ↑main_call0_v5 = V ↑main_call0_v5 ∧ after w12 V ↑main_call0_v7 = V ↑main_call0_v7 ∧ after w12 V ↑main_call0_call0_v1 = V ↑main_call0_call0_v1 := by
  refine ⟨⟨?_, ?_⟩, ?_, ?_, ?_⟩ <;> after_results_simp <;> rfl
theorem w13_run (V : Valuation τ sig (Elt F)) :
    (after w13 V ↑main_call0_call0_v88 = (mixV (F := F) 26#32 6#32 (V ↑main_call0_call0_v81, V ↑main_call0_call0_v87)).1
    ∧ after w13 V ↑main_call0_call0_v94 = (mixV (F := F) 26#32 6#32 (V ↑main_call0_call0_v81, V ↑main_call0_call0_v87)).2)
    ∧ after w13 V ↑main_call0_v5 = V ↑main_call0_v5 ∧ after w13 V ↑main_call0_v7 = V ↑main_call0_v7 ∧ after w13 V ↑main_call0_call0_v1 = V ↑main_call0_call0_v1 := by
  refine ⟨⟨?_, ?_⟩, ?_, ?_, ?_⟩ <;> after_results_simp <;> rfl
theorem w14_run (V : Valuation τ sig (Elt F)) :
    (after w14 V ↑main_call0_call0_v95 = (mixV (F := F) 6#32 26#32 (V ↑main_call0_call0_v88, V ↑main_call0_call0_v94)).1
    ∧ after w14 V ↑main_call0_call0_v101 = (mixV (F := F) 6#32 26#32 (V ↑main_call0_call0_v88, V ↑main_call0_call0_v94)).2)
    ∧ after w14 V ↑main_call0_v5 = V ↑main_call0_v5 ∧ after w14 V ↑main_call0_v7 = V ↑main_call0_v7 ∧ after w14 V ↑main_call0_call0_v1 = V ↑main_call0_call0_v1 := by
  refine ⟨⟨?_, ?_⟩, ?_, ?_, ?_⟩ <;> after_results_simp <;> rfl
theorem w15_run (V : Valuation τ sig (Elt F)) :
    (after w15 V ↑main_call0_call0_v103 = (injV (F := F) (V ↑main_call0_v5) (V ↑main_call0_v7) 3#32 (V ↑main_call0_call0_v95, V ↑main_call0_call0_v101)).1
    ∧ after w15 V ↑main_call0_call0_v107 = (injV (F := F) (V ↑main_call0_v5) (V ↑main_call0_v7) 3#32 (V ↑main_call0_call0_v95, V ↑main_call0_call0_v101)).2)
    ∧ after w15 V ↑main_call0_v5 = V ↑main_call0_v5 ∧ after w15 V ↑main_call0_v7 = V ↑main_call0_v7 ∧ after w15 V ↑main_call0_call0_v1 = V ↑main_call0_call0_v1 := by
  refine ⟨⟨?_, ?_⟩, ?_, ?_, ?_⟩ <;> after_results_simp <;> rfl
theorem w16_run (V : Valuation τ sig (Elt F)) :
    (after w16 V ↑main_call0_call0_v108 = (mixV (F := F) 17#32 15#32 (V ↑main_call0_call0_v103, V ↑main_call0_call0_v107)).1
    ∧ after w16 V ↑main_call0_call0_v114 = (mixV (F := F) 17#32 15#32 (V ↑main_call0_call0_v103, V ↑main_call0_call0_v107)).2)
    ∧ after w16 V ↑main_call0_v5 = V ↑main_call0_v5 ∧ after w16 V ↑main_call0_v7 = V ↑main_call0_v7 ∧ after w16 V ↑main_call0_call0_v1 = V ↑main_call0_call0_v1 := by
  refine ⟨⟨?_, ?_⟩, ?_, ?_, ?_⟩ <;> after_results_simp <;> rfl
theorem w17_run (V : Valuation τ sig (Elt F)) :
    (after w17 V ↑main_call0_call0_v115 = (mixV (F := F) 29#32 3#32 (V ↑main_call0_call0_v108, V ↑main_call0_call0_v114)).1
    ∧ after w17 V ↑main_call0_call0_v121 = (mixV (F := F) 29#32 3#32 (V ↑main_call0_call0_v108, V ↑main_call0_call0_v114)).2)
    ∧ after w17 V ↑main_call0_v5 = V ↑main_call0_v5 ∧ after w17 V ↑main_call0_v7 = V ↑main_call0_v7 ∧ after w17 V ↑main_call0_call0_v1 = V ↑main_call0_call0_v1 := by
  refine ⟨⟨?_, ?_⟩, ?_, ?_, ?_⟩ <;> after_results_simp <;> rfl
theorem w18_run (V : Valuation τ sig (Elt F)) :
    (after w18 V ↑main_call0_call0_v122 = (mixV (F := F) 16#32 16#32 (V ↑main_call0_call0_v115, V ↑main_call0_call0_v121)).1
    ∧ after w18 V ↑main_call0_call0_v128 = (mixV (F := F) 16#32 16#32 (V ↑main_call0_call0_v115, V ↑main_call0_call0_v121)).2)
    ∧ after w18 V ↑main_call0_v5 = V ↑main_call0_v5 ∧ after w18 V ↑main_call0_v7 = V ↑main_call0_v7 ∧ after w18 V ↑main_call0_call0_v1 = V ↑main_call0_call0_v1 := by
  refine ⟨⟨?_, ?_⟩, ?_, ?_, ?_⟩ <;> after_results_simp <;> rfl
theorem w19_run (V : Valuation τ sig (Elt F)) :
    (after w19 V ↑main_call0_call0_v129 = (mixV (F := F) 24#32 8#32 (V ↑main_call0_call0_v122, V ↑main_call0_call0_v128)).1
    ∧ after w19 V ↑main_call0_call0_v135 = (mixV (F := F) 24#32 8#32 (V ↑main_call0_call0_v122, V ↑main_call0_call0_v128)).2)
    ∧ after w19 V ↑main_call0_v5 = V ↑main_call0_v5 ∧ after w19 V ↑main_call0_v7 = V ↑main_call0_v7 ∧ after w19 V ↑main_call0_call0_v1 = V ↑main_call0_call0_v1 := by
  refine ⟨⟨?_, ?_⟩, ?_, ?_, ?_⟩ <;> after_results_simp <;> rfl
theorem w20_run (V : Valuation τ sig (Elt F)) :
    (after w20 V ↑main_call0_call0_v137 = (injV (F := F) (V ↑main_call0_v7) (V ↑main_call0_call0_v1) 4#32 (V ↑main_call0_call0_v129, V ↑main_call0_call0_v135)).1
    ∧ after w20 V ↑main_call0_call0_v141 = (injV (F := F) (V ↑main_call0_v7) (V ↑main_call0_call0_v1) 4#32 (V ↑main_call0_call0_v129, V ↑main_call0_call0_v135)).2)
    ∧ after w20 V ↑main_call0_v5 = V ↑main_call0_v5 ∧ after w20 V ↑main_call0_v7 = V ↑main_call0_v7 ∧ after w20 V ↑main_call0_call0_v1 = V ↑main_call0_call0_v1 := by
  refine ⟨⟨?_, ?_⟩, ?_, ?_, ?_⟩ <;> after_results_simp <;> rfl
theorem w21_run (V : Valuation τ sig (Elt F)) :
    (after w21 V ↑main_call0_call0_v142 = (mixV (F := F) 13#32 19#32 (V ↑main_call0_call0_v137, V ↑main_call0_call0_v141)).1
    ∧ after w21 V ↑main_call0_call0_v148 = (mixV (F := F) 13#32 19#32 (V ↑main_call0_call0_v137, V ↑main_call0_call0_v141)).2)
    ∧ after w21 V ↑main_call0_v5 = V ↑main_call0_v5 ∧ after w21 V ↑main_call0_v7 = V ↑main_call0_v7 ∧ after w21 V ↑main_call0_call0_v1 = V ↑main_call0_call0_v1 := by
  refine ⟨⟨?_, ?_⟩, ?_, ?_, ?_⟩ <;> after_results_simp <;> rfl
theorem w22_run (V : Valuation τ sig (Elt F)) :
    (after w22 V ↑main_call0_call0_v149 = (mixV (F := F) 15#32 17#32 (V ↑main_call0_call0_v142, V ↑main_call0_call0_v148)).1
    ∧ after w22 V ↑main_call0_call0_v155 = (mixV (F := F) 15#32 17#32 (V ↑main_call0_call0_v142, V ↑main_call0_call0_v148)).2)
    ∧ after w22 V ↑main_call0_v5 = V ↑main_call0_v5 ∧ after w22 V ↑main_call0_v7 = V ↑main_call0_v7 ∧ after w22 V ↑main_call0_call0_v1 = V ↑main_call0_call0_v1 := by
  refine ⟨⟨?_, ?_⟩, ?_, ?_, ?_⟩ <;> after_results_simp <;> rfl
theorem w23_run (V : Valuation τ sig (Elt F)) :
    (after w23 V ↑main_call0_call0_v156 = (mixV (F := F) 26#32 6#32 (V ↑main_call0_call0_v149, V ↑main_call0_call0_v155)).1
    ∧ after w23 V ↑main_call0_call0_v162 = (mixV (F := F) 26#32 6#32 (V ↑main_call0_call0_v149, V ↑main_call0_call0_v155)).2)
    ∧ after w23 V ↑main_call0_v5 = V ↑main_call0_v5 ∧ after w23 V ↑main_call0_v7 = V ↑main_call0_v7 ∧ after w23 V ↑main_call0_call0_v1 = V ↑main_call0_call0_v1 := by
  refine ⟨⟨?_, ?_⟩, ?_, ?_, ?_⟩ <;> after_results_simp <;> rfl
theorem w24_run (V : Valuation τ sig (Elt F)) :
    (after w24 V ↑main_call0_call0_v163 = (mixV (F := F) 6#32 26#32 (V ↑main_call0_call0_v156, V ↑main_call0_call0_v162)).1
    ∧ after w24 V ↑main_call0_call0_v169 = (mixV (F := F) 6#32 26#32 (V ↑main_call0_call0_v156, V ↑main_call0_call0_v162)).2)
    ∧ after w24 V ↑main_call0_v5 = V ↑main_call0_v5 ∧ after w24 V ↑main_call0_v7 = V ↑main_call0_v7 ∧ after w24 V ↑main_call0_call0_v1 = V ↑main_call0_call0_v1 := by
  refine ⟨⟨?_, ?_⟩, ?_, ?_, ?_⟩ <;> after_results_simp <;> rfl
theorem w25_run (V : Valuation τ sig (Elt F)) :
    (after w25 V ↑main_call0_v19_0 = (injV (F := F) (V ↑main_call0_call0_v1) (V ↑main_call0_v5) 5#32 (V ↑main_call0_call0_v163, V ↑main_call0_call0_v169)).1
    ∧ after w25 V ↑main_call0_v19_1 = (injV (F := F) (V ↑main_call0_call0_v1) (V ↑main_call0_v5) 5#32 (V ↑main_call0_call0_v163, V ↑main_call0_call0_v169)).2)
    ∧ after w25 V ↑main_call0_v5 = V ↑main_call0_v5 ∧ after w25 V ↑main_call0_v7 = V ↑main_call0_v7 ∧ after w25 V ↑main_call0_call0_v1 = V ↑main_call0_call0_v1 := by
  refine ⟨⟨?_, ?_⟩, ?_, ?_, ?_⟩ <;> after_results_simp <;> rfl

/-! ## From each piece to the last -/

theorem from25 (V : Valuation τ sig (Elt F)) (s : Words F × Words F) (k0 k1 k2 : Word F) (ha : V ↑main_call0_call0_v163 = s.1) (hb : V ↑main_call0_call0_v169 = s.2)
    (h0 : V ↑main_call0_v5 = k0) (h1 : V ↑main_call0_v7 = k1) (h2 : V ↑main_call0_call0_v1 = k2) :
    after r25 V ↑main_call0_v19_0 = (injV (F := F) k2 k0 5#32 s).1 ∧ after r25 V ↑main_call0_v19_1 = (injV (F := F) k2 k0 5#32 s).2 := by
  obtain ⟨⟨a, b⟩, d0, d1, d2⟩ := w25_run V
  rw [ha, hb, h2, h0] at a b
  exact ⟨a, b⟩
theorem from24 (V : Valuation τ sig (Elt F)) (s : Words F × Words F) (k0 k1 k2 : Word F) (ha : V ↑main_call0_call0_v156 = s.1) (hb : V ↑main_call0_call0_v162 = s.2)
    (h0 : V ↑main_call0_v5 = k0) (h1 : V ↑main_call0_v7 = k1) (h2 : V ↑main_call0_call0_v1 = k2) :
    after r24 V ↑main_call0_v19_0 = (injV (F := F) k2 k0 5#32 (mixV (F := F) 6#32 26#32 s)).1 ∧ after r24 V ↑main_call0_v19_1 = (injV (F := F) k2 k0 5#32 (mixV (F := F) 6#32 26#32 s)).2 := by
  obtain ⟨⟨a, b⟩, d0, d1, d2⟩ := w24_run V
  rw [ha, hb] at a b
  rw [after_append]
  exact from25 _ _ _ _ _ a b (d0.trans h0) (d1.trans h1) (d2.trans h2)
theorem from23 (V : Valuation τ sig (Elt F)) (s : Words F × Words F) (k0 k1 k2 : Word F) (ha : V ↑main_call0_call0_v149 = s.1) (hb : V ↑main_call0_call0_v155 = s.2)
    (h0 : V ↑main_call0_v5 = k0) (h1 : V ↑main_call0_v7 = k1) (h2 : V ↑main_call0_call0_v1 = k2) :
    after r23 V ↑main_call0_v19_0 = (injV (F := F) k2 k0 5#32 (mixV (F := F) 6#32 26#32 (mixV (F := F) 26#32 6#32 s))).1 ∧ after r23 V ↑main_call0_v19_1 = (injV (F := F) k2 k0 5#32 (mixV (F := F) 6#32 26#32 (mixV (F := F) 26#32 6#32 s))).2 := by
  obtain ⟨⟨a, b⟩, d0, d1, d2⟩ := w23_run V
  rw [ha, hb] at a b
  rw [after_append]
  exact from24 _ _ _ _ _ a b (d0.trans h0) (d1.trans h1) (d2.trans h2)
theorem from22 (V : Valuation τ sig (Elt F)) (s : Words F × Words F) (k0 k1 k2 : Word F) (ha : V ↑main_call0_call0_v142 = s.1) (hb : V ↑main_call0_call0_v148 = s.2)
    (h0 : V ↑main_call0_v5 = k0) (h1 : V ↑main_call0_v7 = k1) (h2 : V ↑main_call0_call0_v1 = k2) :
    after r22 V ↑main_call0_v19_0 = (injV (F := F) k2 k0 5#32 (mixV (F := F) 6#32 26#32 (mixV (F := F) 26#32 6#32 (mixV (F := F) 15#32 17#32 s)))).1 ∧ after r22 V ↑main_call0_v19_1 = (injV (F := F) k2 k0 5#32 (mixV (F := F) 6#32 26#32 (mixV (F := F) 26#32 6#32 (mixV (F := F) 15#32 17#32 s)))).2 := by
  obtain ⟨⟨a, b⟩, d0, d1, d2⟩ := w22_run V
  rw [ha, hb] at a b
  rw [after_append]
  exact from23 _ _ _ _ _ a b (d0.trans h0) (d1.trans h1) (d2.trans h2)
theorem from21 (V : Valuation τ sig (Elt F)) (s : Words F × Words F) (k0 k1 k2 : Word F) (ha : V ↑main_call0_call0_v137 = s.1) (hb : V ↑main_call0_call0_v141 = s.2)
    (h0 : V ↑main_call0_v5 = k0) (h1 : V ↑main_call0_v7 = k1) (h2 : V ↑main_call0_call0_v1 = k2) :
    after r21 V ↑main_call0_v19_0 = (injV (F := F) k2 k0 5#32 (mixV (F := F) 6#32 26#32 (mixV (F := F) 26#32 6#32 (mixV (F := F) 15#32 17#32 (mixV (F := F) 13#32 19#32 s))))).1 ∧ after r21 V ↑main_call0_v19_1 = (injV (F := F) k2 k0 5#32 (mixV (F := F) 6#32 26#32 (mixV (F := F) 26#32 6#32 (mixV (F := F) 15#32 17#32 (mixV (F := F) 13#32 19#32 s))))).2 := by
  obtain ⟨⟨a, b⟩, d0, d1, d2⟩ := w21_run V
  rw [ha, hb] at a b
  rw [after_append]
  exact from22 _ _ _ _ _ a b (d0.trans h0) (d1.trans h1) (d2.trans h2)
theorem from20 (V : Valuation τ sig (Elt F)) (s : Words F × Words F) (k0 k1 k2 : Word F) (ha : V ↑main_call0_call0_v129 = s.1) (hb : V ↑main_call0_call0_v135 = s.2)
    (h0 : V ↑main_call0_v5 = k0) (h1 : V ↑main_call0_v7 = k1) (h2 : V ↑main_call0_call0_v1 = k2) :
    after r20 V ↑main_call0_v19_0 = (injV (F := F) k2 k0 5#32 (mixV (F := F) 6#32 26#32 (mixV (F := F) 26#32 6#32 (mixV (F := F) 15#32 17#32 (mixV (F := F) 13#32 19#32 (injV (F := F) k1 k2 4#32 s)))))).1 ∧ after r20 V ↑main_call0_v19_1 = (injV (F := F) k2 k0 5#32 (mixV (F := F) 6#32 26#32 (mixV (F := F) 26#32 6#32 (mixV (F := F) 15#32 17#32 (mixV (F := F) 13#32 19#32 (injV (F := F) k1 k2 4#32 s)))))).2 := by
  obtain ⟨⟨a, b⟩, d0, d1, d2⟩ := w20_run V
  rw [ha, hb, h1, h2] at a b
  rw [after_append]
  exact from21 _ _ _ _ _ a b (d0.trans h0) (d1.trans h1) (d2.trans h2)
theorem from19 (V : Valuation τ sig (Elt F)) (s : Words F × Words F) (k0 k1 k2 : Word F) (ha : V ↑main_call0_call0_v122 = s.1) (hb : V ↑main_call0_call0_v128 = s.2)
    (h0 : V ↑main_call0_v5 = k0) (h1 : V ↑main_call0_v7 = k1) (h2 : V ↑main_call0_call0_v1 = k2) :
    after r19 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 s))))))).1 ∧ after r19 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 s))))))).2 := by
  obtain ⟨⟨a, b⟩, d0, d1, d2⟩ := w19_run V
  rw [ha, hb] at a b
  rw [after_append]
  exact from20 _ _ _ _ _ a b (d0.trans h0) (d1.trans h1) (d2.trans h2)
theorem from18 (V : Valuation τ sig (Elt F)) (s : Words F × Words F) (k0 k1 k2 : Word F) (ha : V ↑main_call0_call0_v115 = s.1) (hb : V ↑main_call0_call0_v121 = s.2)
    (h0 : V ↑main_call0_v5 = k0) (h1 : V ↑main_call0_v7 = k1) (h2 : V ↑main_call0_call0_v1 = k2) :
    after r18 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 s)))))))).1 ∧ after r18 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 s)))))))).2 := by
  obtain ⟨⟨a, b⟩, d0, d1, d2⟩ := w18_run V
  rw [ha, hb] at a b
  rw [after_append]
  exact from19 _ _ _ _ _ a b (d0.trans h0) (d1.trans h1) (d2.trans h2)
theorem from17 (V : Valuation τ sig (Elt F)) (s : Words F × Words F) (k0 k1 k2 : Word F) (ha : V ↑main_call0_call0_v108 = s.1) (hb : V ↑main_call0_call0_v114 = s.2)
    (h0 : V ↑main_call0_v5 = k0) (h1 : V ↑main_call0_v7 = k1) (h2 : V ↑main_call0_call0_v1 = k2) :
    after r17 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 s))))))))).1 ∧ after r17 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 s))))))))).2 := by
  obtain ⟨⟨a, b⟩, d0, d1, d2⟩ := w17_run V
  rw [ha, hb] at a b
  rw [after_append]
  exact from18 _ _ _ _ _ a b (d0.trans h0) (d1.trans h1) (d2.trans h2)
theorem from16 (V : Valuation τ sig (Elt F)) (s : Words F × Words F) (k0 k1 k2 : Word F) (ha : V ↑main_call0_call0_v103 = s.1) (hb : V ↑main_call0_call0_v107 = s.2)
    (h0 : V ↑main_call0_v5 = k0) (h1 : V ↑main_call0_v7 = k1) (h2 : V ↑main_call0_call0_v1 = k2) :
    after r16 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 s)))))))))).1 ∧ after r16 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 s)))))))))).2 := by
  obtain ⟨⟨a, b⟩, d0, d1, d2⟩ := w16_run V
  rw [ha, hb] at a b
  rw [after_append]
  exact from17 _ _ _ _ _ a b (d0.trans h0) (d1.trans h1) (d2.trans h2)
theorem from15 (V : Valuation τ sig (Elt F)) (s : Words F × Words F) (k0 k1 k2 : Word F) (ha : V ↑main_call0_call0_v95 = s.1) (hb : V ↑main_call0_call0_v101 = s.2)
    (h0 : V ↑main_call0_v5 = k0) (h1 : V ↑main_call0_v7 = k1) (h2 : V ↑main_call0_call0_v1 = k2) :
    after r15 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 s))))))))))).1 ∧ after r15 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 s))))))))))).2 := by
  obtain ⟨⟨a, b⟩, d0, d1, d2⟩ := w15_run V
  rw [ha, hb, h0, h1] at a b
  rw [after_append]
  exact from16 _ _ _ _ _ a b (d0.trans h0) (d1.trans h1) (d2.trans h2)
theorem from14 (V : Valuation τ sig (Elt F)) (s : Words F × Words F) (k0 k1 k2 : Word F) (ha : V ↑main_call0_call0_v88 = s.1) (hb : V ↑main_call0_call0_v94 = s.2)
    (h0 : V ↑main_call0_v5 = k0) (h1 : V ↑main_call0_v7 = k1) (h2 : V ↑main_call0_call0_v1 = k2) :
    after r14 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 s)))))))))))).1 ∧ after r14 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 s)))))))))))).2 := by
  obtain ⟨⟨a, b⟩, d0, d1, d2⟩ := w14_run V
  rw [ha, hb] at a b
  rw [after_append]
  exact from15 _ _ _ _ _ a b (d0.trans h0) (d1.trans h1) (d2.trans h2)
theorem from13 (V : Valuation τ sig (Elt F)) (s : Words F × Words F) (k0 k1 k2 : Word F) (ha : V ↑main_call0_call0_v81 = s.1) (hb : V ↑main_call0_call0_v87 = s.2)
    (h0 : V ↑main_call0_v5 = k0) (h1 : V ↑main_call0_v7 = k1) (h2 : V ↑main_call0_call0_v1 = k2) :
    after r13 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 s))))))))))))).1 ∧ after r13 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 s))))))))))))).2 := by
  obtain ⟨⟨a, b⟩, d0, d1, d2⟩ := w13_run V
  rw [ha, hb] at a b
  rw [after_append]
  exact from14 _ _ _ _ _ a b (d0.trans h0) (d1.trans h1) (d2.trans h2)
theorem from12 (V : Valuation τ sig (Elt F)) (s : Words F × Words F) (k0 k1 k2 : Word F) (ha : V ↑main_call0_call0_v74 = s.1) (hb : V ↑main_call0_call0_v80 = s.2)
    (h0 : V ↑main_call0_v5 = k0) (h1 : V ↑main_call0_v7 = k1) (h2 : V ↑main_call0_call0_v1 = k2) :
    after r12 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 s)))))))))))))).1 ∧ after r12 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 s)))))))))))))).2 := by
  obtain ⟨⟨a, b⟩, d0, d1, d2⟩ := w12_run V
  rw [ha, hb] at a b
  rw [after_append]
  exact from13 _ _ _ _ _ a b (d0.trans h0) (d1.trans h1) (d2.trans h2)
theorem from11 (V : Valuation τ sig (Elt F)) (s : Words F × Words F) (k0 k1 k2 : Word F) (ha : V ↑main_call0_call0_v69 = s.1) (hb : V ↑main_call0_call0_v73 = s.2)
    (h0 : V ↑main_call0_v5 = k0) (h1 : V ↑main_call0_v7 = k1) (h2 : V ↑main_call0_call0_v1 = k2) :
    after r11 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 s))))))))))))))).1 ∧ after r11 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 s))))))))))))))).2 := by
  obtain ⟨⟨a, b⟩, d0, d1, d2⟩ := w11_run V
  rw [ha, hb] at a b
  rw [after_append]
  exact from12 _ _ _ _ _ a b (d0.trans h0) (d1.trans h1) (d2.trans h2)
theorem from10 (V : Valuation τ sig (Elt F)) (s : Words F × Words F) (k0 k1 k2 : Word F) (ha : V ↑main_call0_call0_v61 = s.1) (hb : V ↑main_call0_call0_v67 = s.2)
    (h0 : V ↑main_call0_v5 = k0) (h1 : V ↑main_call0_v7 = k1) (h2 : V ↑main_call0_call0_v1 = k2) :
    after r10 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 s)))))))))))))))).1 ∧ after r10 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 s)))))))))))))))).2 := by
  obtain ⟨⟨a, b⟩, d0, d1, d2⟩ := w10_run V
  rw [ha, hb, h2, h0] at a b
  rw [after_append]
  exact from11 _ _ _ _ _ a b (d0.trans h0) (d1.trans h1) (d2.trans h2)
theorem from9 (V : Valuation τ sig (Elt F)) (s : Words F × Words F) (k0 k1 k2 : Word F) (ha : V ↑main_call0_call0_v54 = s.1) (hb : V ↑main_call0_call0_v60 = s.2)
    (h0 : V ↑main_call0_v5 = k0) (h1 : V ↑main_call0_v7 = k1) (h2 : V ↑main_call0_call0_v1 = k2) :
    after r9 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 s))))))))))))))))).1 ∧ after r9 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 s))))))))))))))))).2 := by
  obtain ⟨⟨a, b⟩, d0, d1, d2⟩ := w9_run V
  rw [ha, hb] at a b
  rw [after_append]
  exact from10 _ _ _ _ _ a b (d0.trans h0) (d1.trans h1) (d2.trans h2)
theorem from8 (V : Valuation τ sig (Elt F)) (s : Words F × Words F) (k0 k1 k2 : Word F) (ha : V ↑main_call0_call0_v47 = s.1) (hb : V ↑main_call0_call0_v53 = s.2)
    (h0 : V ↑main_call0_v5 = k0) (h1 : V ↑main_call0_v7 = k1) (h2 : V ↑main_call0_call0_v1 = k2) :
    after r8 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 s)))))))))))))))))).1 ∧ after r8 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 s)))))))))))))))))).2 := by
  obtain ⟨⟨a, b⟩, d0, d1, d2⟩ := w8_run V
  rw [ha, hb] at a b
  rw [after_append]
  exact from9 _ _ _ _ _ a b (d0.trans h0) (d1.trans h1) (d2.trans h2)
theorem from7 (V : Valuation τ sig (Elt F)) (s : Words F × Words F) (k0 k1 k2 : Word F) (ha : V ↑main_call0_call0_v40 = s.1) (hb : V ↑main_call0_call0_v46 = s.2)
    (h0 : V ↑main_call0_v5 = k0) (h1 : V ↑main_call0_v7 = k1) (h2 : V ↑main_call0_call0_v1 = k2) :
    after r7 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 s))))))))))))))))))).1 ∧ after r7 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 s))))))))))))))))))).2 := by
  obtain ⟨⟨a, b⟩, d0, d1, d2⟩ := w7_run V
  rw [ha, hb] at a b
  rw [after_append]
  exact from8 _ _ _ _ _ a b (d0.trans h0) (d1.trans h1) (d2.trans h2)
theorem from6 (V : Valuation τ sig (Elt F)) (s : Words F × Words F) (k0 k1 k2 : Word F) (ha : V ↑main_call0_call0_v35 = s.1) (hb : V ↑main_call0_call0_v39 = s.2)
    (h0 : V ↑main_call0_v5 = k0) (h1 : V ↑main_call0_v7 = k1) (h2 : V ↑main_call0_call0_v1 = k2) :
    after r6 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 s)))))))))))))))))))).1 ∧ after r6 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 s)))))))))))))))))))).2 := by
  obtain ⟨⟨a, b⟩, d0, d1, d2⟩ := w6_run V
  rw [ha, hb] at a b
  rw [after_append]
  exact from7 _ _ _ _ _ a b (d0.trans h0) (d1.trans h1) (d2.trans h2)
theorem from5 (V : Valuation τ sig (Elt F)) (s : Words F × Words F) (k0 k1 k2 : Word F) (ha : V ↑main_call0_call0_v27 = s.1) (hb : V ↑main_call0_call0_v33 = s.2)
    (h0 : V ↑main_call0_v5 = k0) (h1 : V ↑main_call0_v7 = k1) (h2 : V ↑main_call0_call0_v1 = k2) :
    after r5 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 s))))))))))))))))))))).1 ∧ after r5 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 s))))))))))))))))))))).2 := by
  obtain ⟨⟨a, b⟩, d0, d1, d2⟩ := w5_run V
  rw [ha, hb, h1, h2] at a b
  rw [after_append]
  exact from6 _ _ _ _ _ a b (d0.trans h0) (d1.trans h1) (d2.trans h2)
theorem from4 (V : Valuation τ sig (Elt F)) (s : Words F × Words F) (k0 k1 k2 : Word F) (ha : V ↑main_call0_call0_v20 = s.1) (hb : V ↑main_call0_call0_v26 = s.2)
    (h0 : V ↑main_call0_v5 = k0) (h1 : V ↑main_call0_v7 = k1) (h2 : V ↑main_call0_call0_v1 = k2) :
    after r4 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 (mixV (F := F) 6#32 26#32 s)))))))))))))))))))))).1 ∧ after r4 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 (mixV (F := F) 6#32 26#32 s)))))))))))))))))))))).2 := by
  obtain ⟨⟨a, b⟩, d0, d1, d2⟩ := w4_run V
  rw [ha, hb] at a b
  rw [after_append]
  exact from5 _ _ _ _ _ a b (d0.trans h0) (d1.trans h1) (d2.trans h2)
theorem from3 (V : Valuation τ sig (Elt F)) (s : Words F × Words F) (k0 k1 k2 : Word F) (ha : V ↑main_call0_call0_v13 = s.1) (hb : V ↑main_call0_call0_v19 = s.2)
    (h0 : V ↑main_call0_v5 = k0) (h1 : V ↑main_call0_v7 = k1) (h2 : V ↑main_call0_call0_v1 = k2) :
    after r3 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 (mixV (F := F) 6#32 26#32 (mixV (F := F) 26#32 6#32 s))))))))))))))))))))))).1 ∧ after r3 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 (mixV (F := F) 6#32 26#32 (mixV (F := F) 26#32 6#32 s))))))))))))))))))))))).2 := by
  obtain ⟨⟨a, b⟩, d0, d1, d2⟩ := w3_run V
  rw [ha, hb] at a b
  rw [after_append]
  exact from4 _ _ _ _ _ a b (d0.trans h0) (d1.trans h1) (d2.trans h2)
theorem from2 (V : Valuation τ sig (Elt F)) (s : Words F × Words F) (k0 k1 k2 : Word F) (ha : V ↑main_call0_call0_v6 = s.1) (hb : V ↑main_call0_call0_v12 = s.2)
    (h0 : V ↑main_call0_v5 = k0) (h1 : V ↑main_call0_v7 = k1) (h2 : V ↑main_call0_call0_v1 = k2) :
    after r2 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 (mixV (F := F) 6#32 26#32 (mixV (F := F) 26#32 6#32 (mixV (F := F) 15#32 17#32 s)))))))))))))))))))))))).1 ∧ after r2 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 (mixV (F := F) 6#32 26#32 (mixV (F := F) 26#32 6#32 (mixV (F := F) 15#32 17#32 s)))))))))))))))))))))))).2 := by
  obtain ⟨⟨a, b⟩, d0, d1, d2⟩ := w2_run V
  rw [ha, hb] at a b
  rw [after_append]
  exact from3 _ _ _ _ _ a b (d0.trans h0) (d1.trans h1) (d2.trans h2)
theorem from1 (V : Valuation τ sig (Elt F)) (s : Words F × Words F) (k0 k1 k2 : Word F) (ha : V ↑main_call0_call0_v3 = s.1) (hb : V ↑main_call0_call0_v5 = s.2)
    (h0 : V ↑main_call0_v5 = k0) (h1 : V ↑main_call0_v7 = k1) (h2 : V ↑main_call0_call0_v1 = k2) :
    after r1 V ↑main_call0_v19_0 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 (mixV (F := F) 6#32 26#32 (mixV (F := F) 26#32 6#32 (mixV (F := F) 15#32 17#32 (mixV (F := F) 13#32 19#32 s))))))))))))))))))))))))).1 ∧ after r1 V ↑main_call0_v19_1 = (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 (mixV (F := F) 6#32 26#32 (mixV (F := F) 26#32 6#32 (mixV (F := F) 15#32 17#32 (mixV (F := F) 13#32 19#32 s))))))))))))))))))))))))).2 := by
  obtain ⟨⟨a, b⟩, d0, d1, d2⟩ := w1_run V
  rw [ha, hb] at a b
  rw [after_append]
  exact from2 _ _ _ _ _ a b (d0.trans h0) (d1.trans h1) (d2.trans h2)

/-- The two words drawn, of the two words of the key and the two of the count. -/
def drawV (k0 k1 : Word F) (c : Words F × Words F) : Words F × Words F :=
  let k2 := key3 (F := F) k0 k1
  let s := iniV (F := F) k0 k1 c
  (injV (F := F) k2 k0 5#32 (mixV (F := F) 6#32 26#32 (mixV (F := F) 26#32 6#32 (mixV (F := F) 15#32 17#32 (mixV (F := F) 13#32 19#32 (injV (F := F) k1 k2 4#32 (mixV (F := F) 24#32 8#32 (mixV (F := F) 16#32 16#32 (mixV (F := F) 29#32 3#32 (mixV (F := F) 17#32 15#32 (injV (F := F) k0 k1 3#32 (mixV (F := F) 6#32 26#32 (mixV (F := F) 26#32 6#32 (mixV (F := F) 15#32 17#32 (mixV (F := F) 13#32 19#32 (injV (F := F) k2 k0 2#32 (mixV (F := F) 24#32 8#32 (mixV (F := F) 16#32 16#32 (mixV (F := F) 29#32 3#32 (mixV (F := F) 17#32 15#32 (injV (F := F) k1 k2 1#32 (mixV (F := F) 6#32 26#32 (mixV (F := F) 26#32 6#32 (mixV (F := F) 15#32 17#32 (mixV (F := F) 13#32 19#32 s)))))))))))))))))))))))))

/-- What the rounds leave. -/
theorem rounds_run (V : Valuation τ sig (Elt F)) :
    after r0 V ↑main_call0_v19_0 = (drawV (F := F) (V ↑main_call0_v5) (V ↑main_call0_v7) (V ↑main_call0_v18, V ↑main_call0_v17)).1
    ∧ after r0 V ↑main_call0_v19_1 = (drawV (F := F) (V ↑main_call0_v5) (V ↑main_call0_v7) (V ↑main_call0_v18, V ↑main_call0_v17)).2 := by
  obtain ⟨⟨a, b⟩, d0, d1, d2⟩ := w0_run V
  rw [after_append]
  exact from1 _ _ _ _ _ a b d0 d1 d2

end Cert.ReferenceIdeal.Sym

end
-- ==== Proof.ReferenceIdeal.Value.lean ====
/- What the reference leaves in its result, as one function of the argument. -/
module

public import proofs.«01_k».proof.Proof.ReferenceIdeal.Rounds

@[expose] public section

set_option maxRecDepth 16384

noncomputable section

namespace Cert.ReferenceIdeal.Sym

open Idealize.ShloMosaic Idealize.ShloMosaic.TcCoe Idealize.ShloMosaic.StableHlo
open Idealize.SL.Sem
open Cert.ReferenceIdeal.Gen

variable {F : FTy → Type} [FloatOps F]

/-- The argument's contents; one number of a one by one array. -/
abbrev Probs (F : FTy → Type) := (⟨S4096x4096x2, .f32⟩ : BufTy).Contents (Elt F)
abbrev Lone (F : FTy → Type) := (⟨S1x1, .f32⟩ : BufTy).Contents (Elt F)
abbrev Key (F : FTy → Type) := (⟨S2, .i32⟩ : BufTy).Contents (Elt F)

/-! ## The pieces as functions of whole arrays -/

/-- The second plane over the sum of the two. -/
def denV (x : Probs F) : Nums F :=
  Host.divf (shapeCast S4096x4096 (extractStridedSlice S4096x4096x1 ![0, 0, 1] x slices_S4096x4096x2_S4096x4096x1_0_0_1) shapeCasts_S4096x4096x1_S4096x4096)
    (Host.reduceAdd x (constant S_ .f32 0x00000000#32) reducesTo_S4096x4096x2_S4096x4096_d2 h_S_)
/-- The two words of the key, of the seed 1: its high part and its low part. -/
def keyV : Key F :=
  concatenate S2 0 [⟨S1, broadcastInDim S1 ![] bcast_S_S1 (Host.shrui (constantI S_ 32 1#32) (constantI S_ 32 32#32))⟩,
    ⟨S1, broadcastInDim S1 ![] bcast_S_S1 (andi (constantI S_ 32 1#32) (constantI S_ 32 4294967295#32))⟩] concatenates_S1_S1_S2_d0
/-- The first word of a key, and the second. -/
def firstV (k : Key F) : Word F := shapeCast S_ (extractStridedSlice S1 ![0] k slices_S2_S1_0) shapeCasts_S1_S_
def secondV (k : Key F) : Word F := shapeCast S_ (extractStridedSlice S1 ![1] k slices_S2_S1_1) shapeCasts_S1_S_
/-- The counts of the entries. -/
def countV : IVec S4096x4096 64 :=
  addi (muli (broadcastInDim S4096x4096 ![] bcast_S_S4096x4096 (constantI S_ 64 4096#64)) (iotaInDim S4096x4096 64 0))
    (muli (broadcastInDim S4096x4096 ![] bcast_S_S4096x4096 (constantI S_ 64 1#64)) (iotaInDim S4096x4096 64 1))
/-- Their low words and their high words. -/
def lowV : Words F := trunci 32 countV natLt_32_64
def highV : Words F := trunci 32 (Host.shrui countV (broadcastInDim S4096x4096 ![] bcast_S_S4096x4096 (constantI S_ 64 32#64))) natLt_32_64
/-- The two ends of the range drawn from. -/
def zeroV : Lone F := broadcastInDim S1x1 ![] bcast_S_S1x1 (constant S_ .f32 0x00000000#32)
def oneV : Lone F := broadcastInDim S1x1 ![] bcast_S_S1x1 (constant S_ .f32 0x3F800000#32)
/-- The numbers between 1 and 2 made of two words drawn. -/
def numV (d : Words F × Words F) : Nums F :=
  bitcastToFloat .f32 (ori (Host.shrui (xori d.1 d.2) (all (F := F) (constantI S_ 32 9#32))) (all (F := F) (constantI S_ 32 1065353216#32)))
/-- A lone number, everywhere. -/
abbrev wide (x : Lone F) : Nums F := broadcastInDim S4096x4096 ![0, 1] bcast_S1x1_S4096x4096_0_1 x
/-- The numbers brought to the range. -/
def uniV (z o : Lone F) (f : Nums F) : Nums F :=
  maximumf (wide (F := F) z) (addf (mulf (subf f (broadcastInDim S4096x4096 ![] bcast_S_S4096x4096 (constant S_ .f32 0x3F800000#32)))
    (wide (F := F) (subf o z))) (wide (F := F) z))
/-- The samples. -/
def smpV (u q : Nums F) : Words F := extui 32 (cmpf .olt u q) natLt_1_32
/-- What is left of an array from the diagonal `k` upwards, `k` being written as the word one less. -/
def triV (k : BitVec 32) (x : Words F) : Words F :=
  select (cmpi .sge (addi (iotaInDim S4096x4096 32 0) (all (F := F) (constantI S_ 32 k))) (iotaInDim S4096x4096 32 1)) (all (F := F) (constantI S_ 32 0#32)) x
/-- An array and its strict upper part turned over. -/
def sumV (x y : Words F) : Words F := addi x (transpose S4096x4096 [1, 0] y transposes_S4096x4096_S4096x4096_1_0)

/-- The two words drawn for every entry. -/
def drawnV : Words F × Words F := drawV (F := F) (firstV (F := F) (keyV (F := F))) (secondV (F := F) (keyV (F := F))) (highV (F := F), lowV (F := F))
/-- All samples. -/
def sampleV (x : Probs F) : Words F := smpV (F := F) (uniV (F := F) (zeroV (F := F)) (oneV (F := F)) (numV (F := F) (drawnV (F := F)))) (denV (F := F) x)
/-- THE RESULT of the reference. -/
def resultV (x : Probs F) : Words F := sumV (F := F) (triV (F := F) 4294967295#32 (sampleV (F := F) x)) (triV (F := F) 0#32 (sampleV (F := F) x))

/-! ## What each piece leaves -/

theorem wDen_run (V : Valuation τ sig (Elt F)) : after wDen V ↑main_v3 = denV (F := F) (V ↑main_arg0) := by
  after_results_simp <;> rfl
theorem wKey_run (V : Valuation τ sig (Elt F)) : after wKey V ↑main_v10 = keyV (F := F) ∧ after wKey V ↑main_v3 = V ↑main_v3 := by
  refine ⟨?_, ?_⟩ <;> after_results_simp <;> rfl
theorem wLim_run (V : Valuation τ sig (Elt F)) : after wLim V ↑main_call0_v2 = zeroV (F := F) ∧ after wLim V ↑main_call0_v3 = oneV (F := F)
    ∧ after wLim V ↑main_v10 = V ↑main_v10 ∧ after wLim V ↑main_v3 = V ↑main_v3 := by
  refine ⟨?_, ?_, ?_, ?_⟩ <;> after_results_simp <;> rfl
theorem wKeys_run (V : Valuation τ sig (Elt F)) : (after wKeys V ↑main_call0_v5 = firstV (F := F) (V ↑main_v10) ∧ after wKeys V ↑main_call0_v7 = secondV (F := F) (V ↑main_v10))
    ∧ after wKeys V ↑main_call0_v2 = V ↑main_call0_v2 ∧ after wKeys V ↑main_call0_v3 = V ↑main_call0_v3 ∧ after wKeys V ↑main_v3 = V ↑main_v3 := by
  refine ⟨⟨?_, ?_⟩, ?_, ?_, ?_⟩ <;> after_results_simp <;> rfl
theorem wIdx_run (V : Valuation τ sig (Elt F)) : (after wIdx V ↑main_call0_v18 = highV (F := F) ∧ after wIdx V ↑main_call0_v17 = lowV (F := F))
    ∧ (after wIdx V ↑main_call0_v5 = V ↑main_call0_v5 ∧ after wIdx V ↑main_call0_v7 = V ↑main_call0_v7)
    ∧ after wIdx V ↑main_call0_v2 = V ↑main_call0_v2 ∧ after wIdx V ↑main_call0_v3 = V ↑main_call0_v3 ∧ after wIdx V ↑main_v3 = V ↑main_v3 := by
  refine ⟨⟨?_, ?_⟩, ⟨?_, ?_⟩, ?_, ?_, ?_⟩ <;> after_results_simp <;> rfl
theorem wUni_run (V : Valuation τ sig (Elt F)) :
    after wUni V ↑main_v11 = uniV (F := F) (V ↑main_call0_v2) (V ↑main_call0_v3) (numV (F := F) (V ↑main_call0_v19_0, V ↑main_call0_v19_1))
    ∧ after wUni V ↑main_v3 = V ↑main_v3 := by
  refine ⟨?_, ?_⟩ <;> after_results_simp <;> rfl
theorem wCmp_run (V : Valuation τ sig (Elt F)) : after wCmp V ↑main_v13 = smpV (F := F) (V ↑main_v11) (V ↑main_v3) := by
  after_results_simp <;> rfl
theorem wTri_run (V : Valuation τ sig (Elt F)) : after wTri V ↑main_v14 = triV (F := F) 4294967295#32 (V ↑main_v13) ∧ after wTri V ↑main_v13 = V ↑main_v13 := by
  refine ⟨?_, ?_⟩ <;> after_results_simp <;> rfl
theorem wTriS_run (V : Valuation τ sig (Elt F)) : after wTriS V ↑main_v15 = triV (F := F) 0#32 (V ↑main_v13) ∧ after wTriS V ↑main_v14 = V ↑main_v14 := by
  refine ⟨?_, ?_⟩ <;> after_results_simp <;> rfl
theorem wSum_run (V : Valuation τ sig (Elt F)) : after wSum V ↑main_v17 = sumV (F := F) (V ↑main_v14) (V ↑main_v15) := by
  after_results_simp <;> rfl

/-- The buffers the rounds write. -/
def written : List (Ref sig .tc) :=
  [
    main_call0_call0_v0, main_call0_call0_c, main_call0_call0_v1, main_call0_call0_v2, main_call0_call0_v3, main_call0_call0_v4,
    main_call0_call0_v5, main_call0_call0_v6, main_call0_call0_c_0, main_call0_call0_v7, main_call0_call0_v8, main_call0_call0_c_1,
    main_call0_call0_v9, main_call0_call0_v10, main_call0_call0_v11, main_call0_call0_v12, main_call0_call0_v13,
    main_call0_call0_c_2, main_call0_call0_v14, main_call0_call0_v15, main_call0_call0_c_3, main_call0_call0_v16,
    main_call0_call0_v17, main_call0_call0_v18, main_call0_call0_v19, main_call0_call0_v20, main_call0_call0_c_4,
    main_call0_call0_v21, main_call0_call0_v22, main_call0_call0_c_5, main_call0_call0_v23, main_call0_call0_v24,
    main_call0_call0_v25, main_call0_call0_v26, main_call0_call0_v27, main_call0_call0_c_6, main_call0_call0_v28,
    main_call0_call0_v29, main_call0_call0_c_7, main_call0_call0_v30, main_call0_call0_v31, main_call0_call0_v32,
    main_call0_call0_v33, main_call0_call0_v34, main_call0_call0_v35, main_call0_call0_v36, main_call0_call0_v37,
    main_call0_call0_c_8, main_call0_call0_v38, main_call0_call0_v39, main_call0_call0_v40, main_call0_call0_c_9,
    main_call0_call0_v41, main_call0_call0_v42, main_call0_call0_c_10, main_call0_call0_v43, main_call0_call0_v44,
    main_call0_call0_v45, main_call0_call0_v46, main_call0_call0_v47, main_call0_call0_c_11, main_call0_call0_v48,
    main_call0_call0_v49, main_call0_call0_c_12, main_call0_call0_v50, main_call0_call0_v51, main_call0_call0_v52,
    main_call0_call0_v53, main_call0_call0_v54, main_call0_call0_c_13, main_call0_call0_v55, main_call0_call0_v56,
    main_call0_call0_c_14, main_call0_call0_v57, main_call0_call0_v58, main_call0_call0_v59, main_call0_call0_v60,
    main_call0_call0_v61, main_call0_call0_c_15, main_call0_call0_v62, main_call0_call0_v63, main_call0_call0_c_16,
    main_call0_call0_v64, main_call0_call0_v65, main_call0_call0_v66, main_call0_call0_v67, main_call0_call0_v68,
    main_call0_call0_v69, main_call0_call0_v70, main_call0_call0_v71, main_call0_call0_c_17, main_call0_call0_v72,
    main_call0_call0_v73, main_call0_call0_v74, main_call0_call0_c_18, main_call0_call0_v75, main_call0_call0_v76,
    main_call0_call0_c_19, main_call0_call0_v77, main_call0_call0_v78, main_call0_call0_v79, main_call0_call0_v80,
    main_call0_call0_v81, main_call0_call0_c_20, main_call0_call0_v82, main_call0_call0_v83, main_call0_call0_c_21,
    main_call0_call0_v84, main_call0_call0_v85, main_call0_call0_v86, main_call0_call0_v87, main_call0_call0_v88,
    main_call0_call0_c_22, main_call0_call0_v89, main_call0_call0_v90, main_call0_call0_c_23, main_call0_call0_v91,
    main_call0_call0_v92, main_call0_call0_v93, main_call0_call0_v94, main_call0_call0_v95, main_call0_call0_c_24,
    main_call0_call0_v96, main_call0_call0_v97, main_call0_call0_c_25, main_call0_call0_v98, main_call0_call0_v99,
    main_call0_call0_v100, main_call0_call0_v101, main_call0_call0_v102, main_call0_call0_v103, main_call0_call0_v104,
    main_call0_call0_v105, main_call0_call0_c_26, main_call0_call0_v106, main_call0_call0_v107, main_call0_call0_v108,
    main_call0_call0_c_27, main_call0_call0_v109, main_call0_call0_v110, main_call0_call0_c_28, main_call0_call0_v111,
    main_call0_call0_v112, main_call0_call0_v113, main_call0_call0_v114, main_call0_call0_v115, main_call0_call0_c_29,
    main_call0_call0_v116, main_call0_call0_v117, main_call0_call0_c_30, main_call0_call0_v118, main_call0_call0_v119,
    main_call0_call0_v120, main_call0_call0_v121, main_call0_call0_v122, main_call0_call0_c_31, main_call0_call0_v123,
    main_call0_call0_v124, main_call0_call0_c_32, main_call0_call0_v125, main_call0_call0_v126, main_call0_call0_v127,
    main_call0_call0_v128, main_call0_call0_v129, main_call0_call0_c_33, main_call0_call0_v130, main_call0_call0_v131,
    main_call0_call0_c_34, main_call0_call0_v132, main_call0_call0_v133, main_call0_call0_v134, main_call0_call0_v135,
    main_call0_call0_v136, main_call0_call0_v137, main_call0_call0_v138, main_call0_call0_v139, main_call0_call0_c_35,
    main_call0_call0_v140, main_call0_call0_v141, main_call0_call0_v142, main_call0_call0_c_36, main_call0_call0_v143,
    main_call0_call0_v144, main_call0_call0_c_37, main_call0_call0_v145, main_call0_call0_v146, main_call0_call0_v147,
    main_call0_call0_v148, main_call0_call0_v149, main_call0_call0_c_38, main_call0_call0_v150, main_call0_call0_v151,
    main_call0_call0_c_39, main_call0_call0_v152, main_call0_call0_v153, main_call0_call0_v154, main_call0_call0_v155,
    main_call0_call0_v156, main_call0_call0_c_40, main_call0_call0_v157, main_call0_call0_v158, main_call0_call0_c_41,
    main_call0_call0_v159, main_call0_call0_v160, main_call0_call0_v161, main_call0_call0_v162, main_call0_call0_v163,
    main_call0_call0_c_42, main_call0_call0_v164, main_call0_call0_v165, main_call0_call0_c_43, main_call0_call0_v166,
    main_call0_call0_v167, main_call0_call0_v168, main_call0_call0_v169, main_call0_call0_v170, main_call0_v19_0,
    main_call0_call0_v172, main_call0_call0_v173, main_call0_call0_c_44, main_call0_call0_v174, main_call0_v19_1]

set_option maxHeartbeats 1000000 in
theorem rounds_writes : (r0 (F := F)).map HloOp.writes = written.map fun w => {Proc.devRef (τ := τ) .tc w} := rfl

/-- The rounds leave every other buffer alone. -/
theorem rounds_keep (V : Valuation τ sig (Elt F)) {r : Ref sig .tc} (h : r ∉ written) : after r0 V ↑r = V ↑r :=
  after_unwritten written rounds_writes h V

/-- All together: what the line leaves in the result. -/
theorem ops_run (V : Valuation τ sig (Elt F)) : after ops V ↑main_v17 = resultV (F := F) (V ↑main_arg0) := by
  have hd := wDen_run V
  generalize h1 : after wDen V = V1 at hd
  obtain ⟨k1, d1⟩ := wKey_run V1
  generalize h2 : after wKey V1 = V2 at k1 d1
  obtain ⟨z2, o2, k2, d2⟩ := wLim_run V2
  generalize h3 : after wLim V2 = V3 at z2 o2 k2 d2
  obtain ⟨⟨a3, b3⟩, z3, o3, d3⟩ := wKeys_run V3
  generalize h4 : after wKeys V3 = V4 at a3 b3 z3 o3 d3
  obtain ⟨⟨hi4, lo4⟩, ⟨a4, b4⟩, z4, o4, d4⟩ := wIdx_run V4
  generalize h5 : after wIdx V4 = V5 at hi4 lo4 a4 b4 z4 o4 d4
  obtain ⟨p5, q5⟩ := rounds_run V5
  have z5 : after r0 V5 ↑main_call0_v2 = _ := rounds_keep V5 (by decide +kernel)
  have o5 : after r0 V5 ↑main_call0_v3 = _ := rounds_keep V5 (by decide +kernel)
  have d5 : after r0 V5 ↑main_v3 = _ := rounds_keep V5 (by decide +kernel)
  generalize h6 : after r0 V5 = V6 at p5 q5 z5 o5 d5
  obtain ⟨u6, d6⟩ := wUni_run V6
  generalize h7 : after wUni V6 = V7 at u6 d6
  have s7 := wCmp_run V7
  generalize h8 : after wCmp V7 = V8 at s7
  obtain ⟨t8, s8⟩ := wTri_run V8
  generalize h9 : after wTri V8 = V9 at t8 s8
  obtain ⟨t9, s9⟩ := wTriS_run V9
  generalize h10 : after wTriS V9 = V10 at t9 s9
  have f10 := wSum_run V10
  have e : after ops V ↑main_v17 = after wSum V10 ↑main_v17 := by
    unfold ops
    rw [after_append, after_append, after_append, after_append, after_append, after_append, after_append, after_append, after_append, after_append,
      h1, h2, h3, h4, h5, h6, h7, h8, h9, h10]
  have ea : V5 ↑main_call0_v5 = firstV (F := F) (keyV (F := F)) := by rw [a4, a3, k2, k1]
  have eb : V5 ↑main_call0_v7 = secondV (F := F) (keyV (F := F)) := by rw [b4, b3, k2, k1]
  have ez : V6 ↑main_call0_v2 = zeroV (F := F) := by rw [z5, z4, z3, z2]
  have eo : V6 ↑main_call0_v3 = oneV (F := F) := by rw [o5, o4, o3, o2]
  have ed : V7 ↑main_v3 = denV (F := F) (V ↑main_arg0) := by rw [d6, d5, d4, d3, d2, d1, hd]
  rw [ea, eb, hi4, lo4] at p5 q5
  have es : V8 ↑main_v13 = sampleV (F := F) (V ↑main_arg0) := by rw [s7, ed, u6, ez, eo, p5, q5]; rfl
  rw [e, f10, t9, s9, t8, s8, es]; rfl

end Cert.ReferenceIdeal.Sym

end
-- ==== Proof.ReferenceIdeal.Frame.lean ====
/- The run of the reference: its result, its frame. -/
module

public import proofs.«01_k».proof.Proof.ReferenceIdeal.Value
public import Idealize.ShloMosaic.Lib.Quiescent

@[expose] public section

set_option maxRecDepth 16384

noncomputable section

namespace Cert.ReferenceIdeal.Sym

open Idealize.ShloMosaic Idealize.ShloMosaic.TcCoe Idealize.ShloMosaic.StableHlo
open Idealize.SL.Sem
open Cert.ReferenceIdeal.Gen

variable {F : FTy → Type} [FloatOps F]

/-- The buffers the line writes. -/
def writtenAll : List (Ref sig .tc) :=
  [
    main_cst, main_v0, main_v1, main_v2, main_v3, main_c, main_c_0, main_v4, main_v5, main_v6, main_c_1, main_v7, main_v8, main_v9,
    main_v10, main_cst_2, main_cst_3, main_call0_v0, main_call0_v1, main_call0_v2, main_call0_v3, main_call0_v4, main_call0_v5,
    main_call0_v6, main_call0_v7, main_call0_v8, main_call0_v9, main_call0_c, main_call0_v10, main_call0_v11, main_call0_c_0,
    main_call0_v12, main_call0_v13, main_call0_v14, main_call0_c_1, main_call0_v15, main_call0_v16, main_call0_v17, main_call0_v18,
    main_call0_call0_v0, main_call0_call0_c, main_call0_call0_v1, main_call0_call0_v2, main_call0_call0_v3, main_call0_call0_v4,
    main_call0_call0_v5, main_call0_call0_v6, main_call0_call0_c_0, main_call0_call0_v7, main_call0_call0_v8, main_call0_call0_c_1,
    main_call0_call0_v9, main_call0_call0_v10, main_call0_call0_v11, main_call0_call0_v12, main_call0_call0_v13,
    main_call0_call0_c_2, main_call0_call0_v14, main_call0_call0_v15, main_call0_call0_c_3, main_call0_call0_v16,
    main_call0_call0_v17, main_call0_call0_v18, main_call0_call0_v19, main_call0_call0_v20, main_call0_call0_c_4,
    main_call0_call0_v21, main_call0_call0_v22, main_call0_call0_c_5, main_call0_call0_v23, main_call0_call0_v24,
    main_call0_call0_v25, main_call0_call0_v26, main_call0_call0_v27, main_call0_call0_c_6, main_call0_call0_v28,
    main_call0_call0_v29, main_call0_call0_c_7, main_call0_call0_v30, main_call0_call0_v31, main_call0_call0_v32,
    main_call0_call0_v33, main_call0_call0_v34, main_call0_call0_v35, main_call0_call0_v36, main_call0_call0_v37,
    main_call0_call0_c_8, main_call0_call0_v38, main_call0_call0_v39, main_call0_call0_v40, main_call0_call0_c_9,
    main_call0_call0_v41, main_call0_call0_v42, main_call0_call0_c_10, main_call0_call0_v43, main_call0_call0_v44,
    main_call0_call0_v45, main_call0_call0_v46, main_call0_call0_v47, main_call0_call0_c_11, main_call0_call0_v48,
    main_call0_call0_v49, main_call0_call0_c_12, main_call0_call0_v50, main_call0_call0_v51, main_call0_call0_v52,
    main_call0_call0_v53, main_call0_call0_v54, main_call0_call0_c_13, main_call0_call0_v55, main_call0_call0_v56,
    main_call0_call0_c_14, main_call0_call0_v57, main_call0_call0_v58, main_call0_call0_v59, main_call0_call0_v60,
    main_call0_call0_v61, main_call0_call0_c_15, main_call0_call0_v62, main_call0_call0_v63, main_call0_call0_c_16,
    main_call0_call0_v64, main_call0_call0_v65, main_call0_call0_v66, main_call0_call0_v67, main_call0_call0_v68,
    main_call0_call0_v69, main_call0_call0_v70, main_call0_call0_v71, main_call0_call0_c_17, main_call0_call0_v72,
    main_call0_call0_v73, main_call0_call0_v74, main_call0_call0_c_18, main_call0_call0_v75, main_call0_call0_v76,
    main_call0_call0_c_19, main_call0_call0_v77, main_call0_call0_v78, main_call0_call0_v79, main_call0_call0_v80,
    main_call0_call0_v81, main_call0_call0_c_20, main_call0_call0_v82, main_call0_call0_v83, main_call0_call0_c_21,
    main_call0_call0_v84, main_call0_call0_v85, main_call0_call0_v86, main_call0_call0_v87, main_call0_call0_v88,
    main_call0_call0_c_22, main_call0_call0_v89, main_call0_call0_v90, main_call0_call0_c_23, main_call0_call0_v91,
    main_call0_call0_v92, main_call0_call0_v93, main_call0_call0_v94, main_call0_call0_v95, main_call0_call0_c_24,
    main_call0_call0_v96, main_call0_call0_v97, main_call0_call0_c_25, main_call0_call0_v98, main_call0_call0_v99,
    main_call0_call0_v100, main_call0_call0_v101, main_call0_call0_v102, main_call0_call0_v103, main_call0_call0_v104,
    main_call0_call0_v105, main_call0_call0_c_26, main_call0_call0_v106, main_call0_call0_v107, main_call0_call0_v108,
    main_call0_call0_c_27, main_call0_call0_v109, main_call0_call0_v110, main_call0_call0_c_28, main_call0_call0_v111,
    main_call0_call0_v112, main_call0_call0_v113, main_call0_call0_v114, main_call0_call0_v115, main_call0_call0_c_29,
    main_call0_call0_v116, main_call0_call0_v117, main_call0_call0_c_30, main_call0_call0_v118, main_call0_call0_v119,
    main_call0_call0_v120, main_call0_call0_v121, main_call0_call0_v122, main_call0_call0_c_31, main_call0_call0_v123,
    main_call0_call0_v124, main_call0_call0_c_32, main_call0_call0_v125, main_call0_call0_v126, main_call0_call0_v127,
    main_call0_call0_v128, main_call0_call0_v129, main_call0_call0_c_33, main_call0_call0_v130, main_call0_call0_v131,
    main_call0_call0_c_34, main_call0_call0_v132, main_call0_call0_v133, main_call0_call0_v134, main_call0_call0_v135,
    main_call0_call0_v136, main_call0_call0_v137, main_call0_call0_v138, main_call0_call0_v139, main_call0_call0_c_35,
    main_call0_call0_v140, main_call0_call0_v141, main_call0_call0_v142, main_call0_call0_c_36, main_call0_call0_v143,
    main_call0_call0_v144, main_call0_call0_c_37, main_call0_call0_v145, main_call0_call0_v146, main_call0_call0_v147,
    main_call0_call0_v148, main_call0_call0_v149, main_call0_call0_c_38, main_call0_call0_v150, main_call0_call0_v151,
    main_call0_call0_c_39, main_call0_call0_v152, main_call0_call0_v153, main_call0_call0_v154, main_call0_call0_v155,
    main_call0_call0_v156, main_call0_call0_c_40, main_call0_call0_v157, main_call0_call0_v158, main_call0_call0_c_41,
    main_call0_call0_v159, main_call0_call0_v160, main_call0_call0_v161, main_call0_call0_v162, main_call0_call0_v163,
    main_call0_call0_c_42, main_call0_call0_v164, main_call0_call0_v165, main_call0_call0_c_43, main_call0_call0_v166,
    main_call0_call0_v167, main_call0_call0_v168, main_call0_call0_v169, main_call0_call0_v170, main_call0_v19_0,
    main_call0_call0_v172, main_call0_call0_v173, main_call0_call0_c_44, main_call0_call0_v174, main_call0_v19_1, main_call0_v20,
    main_call0_c_2, main_call0_v21, main_call0_v22, main_call0_c_3, main_call0_v23, main_call0_v24, main_call0_v25, main_call0_cst,
    main_call0_v26, main_call0_v27, main_call0_v28, main_call0_v29, main_call0_v30, main_call0_v31, main_call0_v32, main_call0_v33,
    main_v11, main_v12, main_v13, main_call1_v0, main_call1_c, main_call1_v1, main_call1_v2, main_call1_v3, main_call1_v4,
    main_call1_c_0, main_call1_v5, main_v14, main_call2_v0, main_call2_c, main_call2_v1, main_call2_v2, main_call2_v3,
    main_call2_v4, main_call2_c_0, main_call2_v5, main_v15, main_v16, main_v17]

set_option maxHeartbeats 1000000 in
theorem ops_writes : (ops (F := F)).map HloOp.writes = writtenAll.map fun w => {Proc.devRef (τ := τ) .tc w} := rfl

/-- The line leaves the argument alone. -/
theorem ops_arg (V : Valuation τ sig (Elt F)) : after ops V ↑main_arg0 = V ↑main_arg0 :=
  after_unwritten writtenAll ops_writes (by decide +kernel) V

/-! ## The run -/

variable (m : (ℓ : Loc nD τ sig) → Buf (Elt F) ℓ) (ρ : Dev nD → PrngReg)

/-- The reference has no scoped buffer and no scoped semaphore. -/
theorem scopedRefs_eq : (Finset.univ.filter fun b : Ref sig .tc => b.isScoped) = ∅ := by decide +kernel
theorem scopedSems_eq : (Finset.univ.filter fun sm : SemLoc sig => sm.isScoped .tc) = ∅ := by decide +kernel

theorem run_ops : θ_run defs (onTc (τ := τ) (main (F := F))) ⟨m, fun _ => 0, ρ⟩ fun r =>
    ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-- THE FRAME: the argument ends as it was, and no semaphore is left raised: there is none. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun r h => ⟨fun c => (h c main_arg0).trans (ops_arg _), sem_eq_zero_of_no_sems rfl r.2⟩) (run_ops m ρ)

/-- THE RUN with its value. -/
theorem run_value : θ_run defs (onTc (τ := τ) (main (F := F))) ⟨m, fun _ => 0, ρ⟩ (fun r => ∀ c : Dev nD,
    r.2.mem ((c.tc : Thread nD τ).loc main_v17) = resultV (F := F) (m ((c.tc : Thread nD τ).loc main_arg0))
    ∧ r.2.mem ((c.tc : Thread nD τ).loc main_arg0) = m ((c.tc : Thread nD τ).loc main_arg0)) :=
  (θ_run defs _ _).mono (fun r h c => ⟨(h c main_v17).trans (ops_run _), (h c main_arg0).trans (ops_arg _)⟩) (run_ops m ρ)

end Cert.ReferenceIdeal.Sym

end
-- ==== Proof.Words.lean ====
/- The generator on single words: a round, the key's words added in, the two words drawn. Both programs compute it entry by entry. -/
module

public import Idealize.ShloMosaic.Lib.Tactic
public import Idealize.ShloMosaic.PureOps.Vector

@[expose] public section

set_option maxRecDepth 16384

namespace Cert.Words

open Idealize.ShloMosaic

/-- A word turned left by `r`, `q` being the rest of 32. -/
def turn (r q x : BitVec 32) : BitVec 32 := (x <<< r) ||| (x >>> q)
/-- One round: the sum, and the second word turned against it. -/
def mix (r q : BitVec 32) (s : BitVec 32 × BitVec 32) : BitVec 32 × BitVec 32 := (s.1 + s.2, turn r q s.2 ^^^ (s.1 + s.2))
/-- Two words of the key and the count added in. -/
def inj (k k' n : BitVec 32) (s : BitVec 32 × BitVec 32) : BitVec 32 × BitVec 32 := (s.1 + k, s.2 + k' + n)
/-- Four rounds of the one kind, … -/
def four (s : BitVec 32 × BitVec 32) : BitVec 32 × BitVec 32 := mix 6#32 26#32 (mix 26#32 6#32 (mix 15#32 17#32 (mix 13#32 19#32 s)))
/-- … and four of the other. -/
def four' (s : BitVec 32 × BitVec 32) : BitVec 32 × BitVec 32 := mix 24#32 8#32 (mix 16#32 16#32 (mix 29#32 3#32 (mix 17#32 15#32 s)))
/-- The two words drawn for the count `i`, by the key of the words 0, 1 and 466688987. -/
def draw (i : BitVec 32) : BitVec 32 × BitVec 32 :=
  inj 466688987#32 0#32 5#32 (four (inj 1#32 466688987#32 4#32 (four' (inj 0#32 1#32 3#32 (four (inj 466688987#32 0#32 2#32 (four'
    (inj 1#32 466688987#32 1#32 (four (0#32, i + 1#32))))))))))
/-- The bits of the number drawn for the count `i`: between 1 and 2. -/
def bits (i : BitVec 32) : BitVec 32 := (((draw i).1 ^^^ (draw i).2) >>> 9#32) ||| 1065353216#32

/-- A shift by less than the width is the shift. -/
theorem shli_of_lt (u : ArithUnit) {w : ℕ} (x k : BitVec w) (h : k.toNat < w) : IntOp.shli u x k = x <<< k := if_pos h
theorem shrui_of_lt (u : ArithUnit) {w : ℕ} (x k : BitVec w) (h : k.toNat < w) : IntOp.shrui u x k = x >>> k := if_pos h

end Cert.Words

end
-- ==== Proof.KernelIdeal.Draw.lean ====
/- The tile a point computes, entry by entry: the two words drawn for the entry's place, and the number they give against the quotient. -/
module

public import proofs.«01_k».proof.Proof.KernelIdeal.Tile
public import proofs.«01_k».proof.Proof.Words

@[expose] public section

set_option maxRecDepth 16384

noncomputable section

namespace Cert.KernelIdeal.Sym

open Idealize.ShloMosaic Idealize.ShloMosaic.TcCoe Idealize.ShloMosaic.Tactic
open Cert.KernelIdeal.Gen Cert.Words

variable {F : FTy → Type} [FloatOps F]

/-! ## The rounds, at one entry -/

section rounds
variable (a b : BitVec 32) (x y z : IVec S512x512 32) (j : S512x512.Idx)

theorem q8 : (k0_pay7 (F := F) a b j, k0_pay8 (F := F) a b j) = mix 13#32 19#32 (0#32, k0_pay6 (F := F) a b j) := rfl
theorem q10 : (k0_pay9 (F := F) a b j, k0_pay10 (F := F) a b j) = mix 15#32 17#32 (k0_pay7 (F := F) a b j, k0_pay8 (F := F) a b j) := rfl
theorem q12 : (k0_pay11 (F := F) a b j, k0_pay12 (F := F) a b j) = mix 26#32 6#32 (k0_pay9 (F := F) a b j, k0_pay10 (F := F) a b j) := rfl
theorem q14 : (k0_pay13 (F := F) a b j, (k0_pay14 (F := F) a b j ||| k0_pay12 (F := F) a b j >>> 26#32) ^^^ k0_pay13 (F := F) a b j) = mix 6#32 26#32 (k0_pay11 (F := F) a b j, k0_pay12 (F := F) a b j) := rfl

theorem q15 : (y j + 1#32, k0_pay15 x y z j) = inj 1#32 466688987#32 1#32 (y j, (z j ||| x j >>> 26#32) ^^^ y j) := rfl
theorem q17 : (k0_pay16 x y z j, k0_pay17 x y z j) = mix 17#32 15#32 (y j + 1#32, k0_pay15 x y z j) := rfl
theorem q19 : (k0_pay18 x y z j, k0_pay19 x y z j) = mix 29#32 3#32 (k0_pay16 x y z j, k0_pay17 x y z j) := rfl
theorem q21 : (k0_pay20 x y z j, k0_pay21 x y z j) = mix 16#32 16#32 (k0_pay18 x y z j, k0_pay19 x y z j) := rfl
theorem q23 : (k0_pay22 x y z j + 466688987#32, k0_pay23 x y z j) = inj 466688987#32 0#32 2#32 (mix 24#32 8#32 (k0_pay20 x y z j, k0_pay21 x y z j)) := rfl
theorem q24 : k0_pay24 x y z j = (k0_pay22 x y z j + 466688987#32) + k0_pay23 x y z j := rfl

theorem q25 : (y j, k0_pay25 x y j) = (y j, turn 13#32 19#32 (x j) ^^^ y j) := rfl
theorem q27 : (k0_pay26 x y j, k0_pay27 x y j) = mix 15#32 17#32 (y j, k0_pay25 x y j) := rfl
theorem q29 : (k0_pay28 x y j, k0_pay29 x y j) = mix 26#32 6#32 (k0_pay26 x y j, k0_pay27 x y j) := rfl
theorem q31 : (k0_pay30 x y j + 0#32, k0_pay31 x y j) = inj 0#32 1#32 3#32 (mix 6#32 26#32 (k0_pay28 x y j, k0_pay29 x y j)) := rfl
theorem q33 : (k0_pay32 x y j, k0_pay33 x y j) = mix 17#32 15#32 (k0_pay30 x y j + 0#32, k0_pay31 x y j) := rfl
theorem q35 : (k0_pay34 x y j, (k0_pay35 x y j ||| k0_pay36 x y j) ^^^ k0_pay34 x y j) = mix 29#32 3#32 (k0_pay32 x y j, k0_pay33 x y j) := rfl

theorem q37 : (x j, k0_pay37 x y z j) = (x j, (y j ||| z j) ^^^ x j) := rfl
theorem q39 : (k0_pay38 x y z j, k0_pay39 x y z j) = mix 16#32 16#32 (x j, k0_pay37 x y z j) := rfl
theorem q41 : (k0_pay40 x y z j + 1#32, k0_pay41 x y z j) = inj 1#32 466688987#32 4#32 (mix 24#32 8#32 (k0_pay38 x y z j, k0_pay39 x y z j)) := rfl
theorem q43 : (k0_pay42 x y z j, k0_pay43 x y z j) = mix 13#32 19#32 (k0_pay40 x y z j + 1#32, k0_pay41 x y z j) := rfl
theorem q45 : (k0_pay44 x y z j, k0_pay45 x y z j) = mix 15#32 17#32 (k0_pay42 x y z j, k0_pay43 x y z j) := rfl
theorem q47 : (k0_pay46 x y z j, k0_pay47 x y z j) = mix 26#32 6#32 (k0_pay44 x y z j, k0_pay45 x y z j) := rfl
theorem q49 : (k0_pay48 x y z j, (k0_pay49 x y z j ||| k0_pay47 x y z j >>> 26#32) ^^^ k0_pay48 x y z j) = mix 6#32 26#32 (k0_pay46 x y z j, k0_pay47 x y z j) := rfl

end rounds

/-! ## The rounds put together -/

section state
variable (a b : BitVec 32) (j : S512x512.Idx)

/-- The state at the first cut, … -/
theorem state1 : (s1b (F := F) a b j, (s1c (F := F) a b j ||| s1a (F := F) a b j >>> 26#32) ^^^ s1b (F := F) a b j) = four (0#32, k0_pay6 (F := F) a b j) := by
  unfold s1a s1b s1c
  rw [q14, q12, q10, q8]; rfl
/-- … at the second, … -/
theorem state2 : ∃ p : BitVec 32 × BitVec 32, p = inj 466688987#32 0#32 2#32 (four' (inj 1#32 466688987#32 1#32 (four (0#32, k0_pay6 (F := F) a b j))))
    ∧ s2a (F := F) a b j = p.2 ∧ s2b (F := F) a b j = p.1 + p.2 := by
  refine ⟨_, rfl, ?_⟩
  have h : (k0_pay22 (s1a (F := F) a b) (s1b (F := F) a b) (s1c (F := F) a b) j + 466688987#32, s2a (F := F) a b j)
      = inj 466688987#32 0#32 2#32 (four' (inj 1#32 466688987#32 1#32 (four (0#32, k0_pay6 (F := F) a b j)))) := by
    unfold s2a
    rw [q23, q21, q19, q17, q15, state1]; rfl
  rw [← h]
  exact ⟨rfl, q24 _ _ _ j⟩
/-- … at the third, … -/
theorem state3 : (s3a (F := F) a b j, (s3b (F := F) a b j ||| s3c (F := F) a b j) ^^^ s3a (F := F) a b j)
    = mix 29#32 3#32 (mix 17#32 15#32 (inj 0#32 1#32 3#32 (four (inj 466688987#32 0#32 2#32 (four' (inj 1#32 466688987#32 1#32 (four (0#32, k0_pay6 (F := F) a b j)))))))) := by
  obtain ⟨p, hp, h2, h1⟩ := state2 (F := F) a b j
  unfold s3a s3b s3c
  rw [q35, q33, q31, q29, q27, q25, ← hp, h1, h2]; rfl
/-- … and at the fourth. -/
theorem state4 : (s4b (F := F) a b j, (s4c (F := F) a b j ||| s4a (F := F) a b j >>> 26#32) ^^^ s4b (F := F) a b j)
    = four (inj 1#32 466688987#32 4#32 (four' (inj 0#32 1#32 3#32 (four (inj 466688987#32 0#32 2#32 (four' (inj 1#32 466688987#32 1#32 (four (0#32, k0_pay6 (F := F) a b j))))))))) := by
  unfold s4a s4b s4c
  rw [q49, q47, q45, q43, q41, q39, q37, state3]; rfl

/-- The sample: the number of the bits `w` against the quotient of the second probability by the sum. -/
def sample (p0 p1 : F .f32) (w : BitVec 32) : BitVec 32 :=
  (FloatOps.cmpf .olt (FloatOps.subf (FloatOps.ofBits .f32 w) (FloatOps.ofBits .f32 0x3F800000#32)) (FloatOps.divf p1 (FloatOps.addf p0 p1))).setWidth 32

theorem quot_at (x0 x1 : Vec F S512x512 .f32) : k0_pay5 x0 x1 j = FloatOps.divf (x1 j) (FloatOps.addf (x0 j) (x1 j)) := by
  unfold k0_pay5
  simp only [shapeCast_self]
  rfl

theorem pay1_at (q : FVec F S512x512 .f32) (x y z : IVec S512x512 32) : k0_pay1 q x y z j
    = (FloatOps.cmpf .olt (FloatOps.subf (FloatOps.ofBits .f32 ((((inj 466688987#32 0#32 5#32 (y j, (z j ||| x j >>> 26#32) ^^^ y j)).1
        ^^^ (inj 466688987#32 0#32 5#32 (y j, (z j ||| x j >>> 26#32) ^^^ y j)).2) >>> 9#32) ||| 1065353216#32))
          (FloatOps.ofBits .f32 0x3F800000#32)) (q j)).setWidth 32 := rfl

/-- The count of an entry: its place in the matrix, rows first. -/
def count (a b : BitVec 32) (j : S512x512.Idx) : BitVec 32 :=
  (a * 512#32 + BitVec.ofNat 32 (j 0).val) * 4096#32 + (b * 512#32 + BitVec.ofNat 32 (j 1).val)

theorem pay6_at : k0_pay6 (F := F) a b j = count a b j + 1#32 := by
  unfold k0_pay6
  show ((a * 512#32 + iota .tc S512x512 32 [0] iota_S512x512_d0_w32 j) * 4096#32 + (b * 512#32 + iota .tc S512x512 32 [1] iota_S512x512_d1_w32 j)) + 1#32 = _
  rw [iota_single_apply, iota_single_apply]
  rfl

/-- THE TILE at an entry: the sample of the entry's count. -/
theorem tile_at (x0 x1 : Vec F S512x512 .f32) : tile a b x0 x1 j = sample (x0 j) (x1 j) (bits (count a b j)) := by
  unfold tile
  rw [pay1_at, state4, quot_at, pay6_at]
  rfl

/-- The entry mirrored in the diagonal. -/
def mir (j : S512x512.Idx) : S512x512.Idx := fun | ⟨0, _⟩ => j 1 | ⟨1, _⟩ => j 0

/-- A tile turned over, at an entry. -/
theorem turned_at (x : IVec S512x512 32) : transpose S512x512 [1, 0] x transposes_S512x512_p1_0_S512x512 j = x (mir j) :=
  transpose_apply _ _ _ _ _ fun b => by fin_cases b <;> rfl

/-- The kept copy turned over, at an entry. -/
theorem flip_at (x : Vec F S512x512 .i32) : k0_pay3 (F := F) x j = x (mir j) := turned_at j x

theorem pay4_eq (q : FVec F S512x512 .f32) (x y z : IVec S512x512 32) : k0_pay4 q x y z
    = select (cmpi .sle (iota .tc S512x512 32 [0] iota_S512x512_d0_w32) (iota .tc S512x512 32 [1] iota_S512x512_d1_w32))
        (k0_pay1 q x y z) (transpose S512x512 [1, 0] (k0_pay1 q x y z) transposes_S512x512_p1_0_S512x512) := rfl

/-- The diagonal tile at an entry: that of the tile, on and above the diagonal, and its mirror image below. -/
theorem diag_at (x0 x1 : Vec F S512x512 .f32) : diag a b x0 x1 j
    = if (j 0).val ≤ (j 1).val then tile a b x0 x1 j else tile a b x0 x1 (mir j) := by
  unfold diag
  rw [pay4_eq]
  show Scalar.select (IntOp.cmpi .sle (iota .tc S512x512 32 [0] iota_S512x512_d0_w32 j) (iota .tc S512x512 32 [1] iota_S512x512_d1_w32 j))
    (tile a b x0 x1 j) (transpose S512x512 [1, 0] (tile a b x0 x1) transposes_S512x512_p1_0_S512x512 j) = _
  rw [iota_single_apply, iota_single_apply, turned_at]
  have h0 : (j 0).val < 2 ^ (32 - 1) := lt_trans (j 0).isLt (by decide)
  have h1 : (j 1).val < 2 ^ (32 - 1) := lt_trans (j 1).isLt (by decide)
  rw [WordCmp.cmpi_sle_ofNat h0 h1]
  unfold Scalar.select
  split <;> rename_i h <;> split <;> rename_i h' <;> simp_all

end state

end Cert.KernelIdeal.Sym

end
-- ==== Proof.KernelIdeal.Value.lean ====
/- The result array: every entry on or above the diagonal is its own sample, every entry below it the sample of its mirror image. -/
module

public import proofs.«01_k».proof.Proof.KernelIdeal.Frame
public import proofs.«01_k».proof.Proof.KernelIdeal.Draw

@[expose] public section

set_option maxRecDepth 16384

noncomputable section

namespace Cert.KernelIdeal.Sym

open Idealize.ShloMosaic Idealize.ShloMosaic.TcCoe Idealize.ShloMosaic.Tactic Idealize.ShloMosaic.Pipeline
open Idealize
open Cert.KernelIdeal.Gen Cert.Words

variable {F : FTy → Type} [FloatOps F]
variable (m : (ℓ : Loc nD τ sig) → Buf (Elt F) ℓ) (ρ : Dev nD → PrngReg)

/-- The entry of the whole matrix mirrored in the diagonal. -/
def mirror (y : S4096x4096.Idx) : S4096x4096.Idx := fun | ⟨0, _⟩ => y 1 | ⟨1, _⟩ => y 0

/-- The sample of an entry of the whole matrix, of the two planes of probabilities. -/
def samp (x0 x1 : Vec F S4096x4096 .f32) (y : S4096x4096.Idx) : BitVec 32 :=
  sample (x0 y) (x1 y) (bits (BitVec.ofNat 32 ((y 0).val * 4096 + (y 1).val)))

/-- The whole matrix: the samples on and above the diagonal, their mirror images below. -/
def symm (x0 x1 : Vec F S4096x4096 .f32) : Vec F S4096x4096 .i32 := fun y =>
  if (y 0).val ≤ (y 1).val then samp x0 x1 y else samp x0 x1 (mirror y)

/-- What the result array ends at. -/
def result (c : Dev nD) : Buf (Elt F) ((c : Thread nD τ).loc main_v0) := symm (V m c main_call0_v1) (V m c main_call0_v3)

/-! ## Where the blocks lie -/

theorem idx0 (t : Fin (cfgM (F := F)).N) : ((cfgM (F := F)).win 0).index t = ![(word 0 t.val).toNat, (word 1 t.val).toNat] :=
  (tr0 (F := F) (grid0.coords t)).trans (by rw [coords_val])
theorem idx1 (t : Fin (cfgM (F := F)).N) : ((cfgM (F := F)).win 1).index t = ![(word 0 t.val).toNat, (word 1 t.val).toNat] :=
  (tr1 (F := F) (grid0.coords t)).trans (by rw [coords_val])
theorem idx2 (t : Fin (cfgM (F := F)).N) : ((cfgM (F := F)).win 2).index t = ![(word 2 t.val).toNat, (word 3 t.val).toNat] :=
  (tr2 (F := F) (grid0.coords t)).trans (by rw [coords_val])

/-- Where an element of a block lies, of the block's index. -/
theorem place {G : Grid} (w : Window sig G) (t : Fin G.N) (j : (w.xblock (G.coords t)).Idx) (y : w.shape.Idx) (hk : w.kind = .blocked)
    (A : Fin w.shape.rank → ℕ) (hA : w.index t = A) (h : ∀ a, (y a).val = A a * w.size a + (j a).val) : (w.rect t).emb j = y :=
  funext fun a => Fin.ext ((w.rect_emb_val t j a hk).trans (by rw [hA]; exact (h a).symm))

/-- The two coordinates of a place, as one statement. -/
theorem both {A B : ℕ} {j : S512x512.Idx} {y : S4096x4096.Idx} (h0 : (y 0).val = A * 512 + (j 0).val)
    (h1 : (y 1).val = B * 512 + (j 1).val) : ∀ a : Fin 2, (y a).val = ![A, B] a * S512x512.size a + (j a).val
  | ⟨0, _⟩ => h0
  | ⟨1, _⟩ => h1

/-- An entry of the first plane's block is the plane's entry there. -/
theorem iblk0_at (c : Dev nD) (t : Fin (cfgM (F := F)).N) (j : S512x512.Idx) (y : S4096x4096.Idx)
    (h0 : (y 0).val = (word 0 t.val).toNat * 512 + (j 0).val) (h1 : (y 1).val = (word 1 t.val).toNat * 512 + (j 1).val) :
    (iblk m c 0 t : Vec F S512x512 .f32) j = V m c main_call0_v1 y :=
  congrArg (V m c main_call0_v1) (place ((cfgM (F := F)).win 0) t j y rfl _ (idx0 t) (both h0 h1))
/-- The same of the second plane's. -/
theorem iblk1_at (c : Dev nD) (t : Fin (cfgM (F := F)).N) (j : S512x512.Idx) (y : S4096x4096.Idx)
    (h0 : (y 0).val = (word 0 t.val).toNat * 512 + (j 0).val) (h1 : (y 1).val = (word 1 t.val).toNat * 512 + (j 1).val) :
    (iblk m c 1 t : Vec F S512x512 .f32) j = V m c main_call0_v3 y :=
  congrArg (V m c main_call0_v3) (place ((cfgM (F := F)).win 1) t j y rfl _ (idx1 t) (both h0 h1))

/-- A place of the whole matrix with given coordinates. -/
theorem exists_place {A B : ℕ} (hA : A < 8) (hB : B < 8) (j : S512x512.Idx) : ∃ y : S4096x4096.Idx,
    (y 0).val = A * 512 + (j 0).val ∧ (y 1).val = B * 512 + (j 1).val := by
  have j0 : (j 0).val < 512 := (j 0).isLt
  have j1 : (j 1).val < 512 := (j 1).isLt
  exact ⟨fun | ⟨0, _⟩ => ⟨A * 512 + (j 0).val, show _ < 4096 by omega⟩ | ⟨1, _⟩ => ⟨B * 512 + (j 1).val, show _ < 4096 by omega⟩, rfl, rfl⟩

/-- An entry of the result's block of a whole matrix is the matrix's entry there. -/
theorem oblk_at (f : Vec F S4096x4096 .i32) (t : Fin (cfgM (F := F)).N) (j : S512x512.Idx) (y : S4096x4096.Idx)
    (h0 : (y 0).val = (word 2 t.val).toNat * 512 + (j 0).val) (h1 : (y 1).val = (word 3 t.val).toNat * 512 + (j 1).val) :
    ((((cfgM (F := F)).win 2).blk t).view.read (Elt F) f : Vec F S512x512 .i32) j = f y :=
  congrArg f (place ((cfgM (F := F)).win 2) t j y rfl _ (idx2 t) (both h0 h1))

/-- The count of a tile's entry is its place in the whole matrix. -/
theorem count_eq (a b : BitVec 32) (j : S512x512.Idx) : count a b j
    = BitVec.ofNat 32 ((a.toNat * 512 + (j 0).val) * 4096 + (b.toNat * 512 + (j 1).val)) := by
  unfold count
  have ha : a = BitVec.ofNat 32 a.toNat := (BitVec.ofNat_toNat 32 a).symm.trans rfl |>.symm ▸ by simp
  have hb : b = BitVec.ofNat 32 b.toNat := by simp
  rw [BitVec.ofNat_add, BitVec.ofNat_mul, BitVec.ofNat_add, BitVec.ofNat_mul, BitVec.ofNat_add, BitVec.ofNat_mul, ← ha, ← hb]

/-- A point's tile, entry by entry, is the samples of the entries there. -/
theorem tileAt_at (c : Dev nD) (t : Fin (cfgM (F := F)).N) (j : S512x512.Idx) (y : S4096x4096.Idx)
    (h0 : (y 0).val = (word 0 t.val).toNat * 512 + (j 0).val) (h1 : (y 1).val = (word 1 t.val).toNat * 512 + (j 1).val) :
    tileAt m c t j = samp (V m c main_call0_v1) (V m c main_call0_v3) y := by
  refine (tile_at _ _ j (iblk m c 0 t) (iblk m c 1 t)).trans ?_
  refine (congrArg₂ (fun p q => sample p q _) (iblk0_at m c t j y h0 h1) (iblk1_at m c t j y h0 h1)).trans ?_
  unfold samp
  rw [count_eq, h0, h1]

/-- What a point leaves, word by word of what to do. -/
theorem out_zero (c : Dev nD) (t : Fin (cfgM (F := F)).N) (h : word 4 t.val = 0#32) : outAt m c t = tileAt m c t := if_pos h
theorem out_one (c : Dev nD) (t : Fin (cfgM (F := F)).N) (h : word 4 t.val = 1#32) : outAt m c t = k0_pay3 (F := F) (tileAt m c (prev t)) :=
  (if_neg (by rw [h]; decide)).trans (if_pos h)
theorem out_two (c : Dev nD) (t : Fin (cfgM (F := F)).N) (h : word 4 t.val = 2#32) :
    outAt m c t = diag (word 0 t.val) (word 1 t.val) (iblk m c 0 t) (iblk m c 1 t) :=
  (if_neg (by rw [h]; decide)).trans (if_neg (by rw [h]; decide))

/-- What a point leaves is the whole matrix's block there. -/
theorem outAt_at (c : Dev nD) (t : Fin (cfgM (F := F)).N) (j : S512x512.Idx) (y : S4096x4096.Idx)
    (h0 : (y 0).val = (word 2 t.val).toNat * 512 + (j 0).val) (h1 : (y 1).val = (word 3 t.val).toNat * 512 + (j 1).val) :
    outAt m c t j = result m c y := by
  have j0 : (j 0).val < 512 := (j 0).isLt
  have j1 : (j 1).val < 512 := (j 1).isLt
  have q0 : (mirror y 0).val = (y 1).val := rfl
  have q1 : (mirror y 1).val = (y 0).val := rfl
  have p0 : (mir j 0).val = (j 1).val := rfl
  have p1 : (mir j 1).val = (j 0).val := rfl
  show outAt m c t j = (if (y 0).val ≤ (y 1).val then samp (V m c main_call0_v1) (V m c main_call0_v3) y
    else samp (V m c main_call0_v1) (V m c main_call0_v3) (mirror y))
  rcases mode_cases t with h | h | h
  · obtain ⟨e2, e3, lt⟩ := mode_zero t h
    rw [e2] at h0; rw [e3] at h1
    rw [if_pos (by omega)]
    exact (congrFun (out_zero m c t h) j).trans (tileAt_at m c t j y h0 h1)
  · obtain ⟨-, hp, f0, f1, e2, e3, lt⟩ := mode_one t h
    rw [e2] at h0; rw [e3] at h1
    rw [if_neg (by omega)]
    refine ((congrFun (out_one m c t h) j).trans (flip_at j _)).trans ?_
    refine tileAt_at m c (prev t) (mir j) (mirror y) ?_ ?_
    · show (mirror y 0).val = (word 0 (t.val - 1)).toNat * 512 + _
      rw [f0]; omega
    · show (mirror y 1).val = (word 1 (t.val - 1)).toNat * 512 + _
      rw [f1]; omega
  · obtain ⟨e2, e3, e⟩ := mode_two t h
    rw [e2] at h0; rw [e3] at h1
    refine ((congrFun (out_two m c t h) j).trans (diag_at _ _ j _ _)).trans ?_
    have ee : (word 1 t.val).toNat = (word 0 t.val).toNat := congrArg _ e
    by_cases hj : (j 0).val ≤ (j 1).val
    · rw [if_pos hj, if_pos (by omega)]
      exact tileAt_at m c t j y h0 h1
    · rw [if_neg hj, if_neg (by omega)]
      exact tileAt_at m c t (mir j) (mirror y) (by omega) (by omega)

/-- What a point writes back is its block of the whole matrix. -/
theorem flushed_eq (c : Dev nD) (t : Fin (cfgM (F := F)).N) :
    (dats m 0 c).flushed 2 t = (((cfgM (F := F)).win 2).blk t).view.read (Elt F) (result m c) := by
  show ((cfgM (F := F)).win 2).cut (grid0.coords t) ((dats m 0 c).after 2 t) = _
  rw [after_2]
  funext j
  obtain ⟨y, h0, h1⟩ := exists_place (word_lt t).2.1 (word_lt t).2.2 j
  exact (outAt_at m c t j y h0 h1).trans (oblk_at (F := F) (result m c) t j y h0 h1).symm

/-- Two points one after another write different tiles. -/
theorem moves : ∀ n : Fin 64, n.val + 1 < 64 → ![(word 2 (n.val + 1)).toNat, (word 3 (n.val + 1)).toNat] ≠ ![(word 2 n.val).toNat, (word 3 n.val).toNat] := by
  decide +kernel

/-- Every point writes its block back. -/
theorem flush_all (t : Fin (cfgM (F := F)).N) : ((cfgM (F := F)).win 2).flush t = true := by
  have hN : (cfgM (F := F)).N = 64 := rfl
  unfold Window.flush
  by_cases h : t.val + 1 < 64
  · have hd : ∃ h : t.val + 1 < (cfgM (F := F)).N, ((cfgM (F := F)).win 2).index ⟨t.val + 1, h⟩ ≠ ((cfgM (F := F)).win 2).index t :=
      ⟨h, by rw [idx2, idx2]; exact moves t h⟩
    rw [Bool.and_eq_true, Bool.or_eq_true]
    exact ⟨rfl, Or.inr (decide_eq_true hd)⟩
  · have : t.val < 64 := t.isLt
    rw [Bool.and_eq_true, Bool.or_eq_true]
    exact ⟨rfl, Or.inl (decide_eq_true (show t.val + 1 = 64 by omega))⟩

/-- An entry lies in the block of its tile. -/
theorem mem_blk (t : Fin (cfgM (F := F)).N) (y : S4096x4096.Idx)
    (h0 : (y 0).val / 512 = (word 2 t.val).toNat) (h1 : (y 1).val / 512 = (word 3 t.val).toNat) :
    y ∈ (((cfgM (F := F)).win 2).blk t).view.set := by
  have e : (((cfgM (F := F)).win 2).rect t).emb (fun | ⟨0, _⟩ => ⟨(y 0).val % 512, Nat.mod_lt _ (by decide)⟩ | ⟨1, _⟩ => ⟨(y 1).val % 512, Nat.mod_lt _ (by decide)⟩ : S512x512.Idx) = y :=
    place ((cfgM (F := F)).win 2) t _ y rfl _ (idx2 t) (both (by show _ = _ + (y 0).val % 512; omega) (by show _ = _ + (y 1).val % 512; omega))
  exact Finset.mem_map.mpr ⟨_, Finset.mem_univ _, e⟩

/-- The blocks written back fill the whole array. -/
theorem cover (y : S4096x4096.Idx) : ∃ t : Fin (cfgM (F := F)).N, ((cfgM (F := F)).win 2).flush t = true
    ∧ y ∈ (((cfgM (F := F)).win 2).blk t).view.set := by
  have y0 : (y 0).val < 4096 := (y 0).isLt
  have y1 : (y 1).val < 4096 := (y 1).isLt
  obtain ⟨n, h0, h1⟩ := tile_hit ⟨(y 0).val / 512, by omega⟩ ⟨(y 1).val / 512, by omega⟩
  have hn : n.val < (cfgM (F := F)).N := n.isLt
  exact ⟨⟨n.val, hn⟩, flush_all _, mem_blk ⟨n.val, hn⟩ y h0.symm h1.symm⟩

/-- So the result array ends at the whole matrix. -/
theorem final (c : Dev nD) : (dats m 0 c).arrAt 2 (cfgM (F := F)).N = result m c :=
  (dats m 0 c).arrAt_eq_of_cover 2 (result m c) (fun t _ => flushed_eq m c t) cover

/-- THE RUN with its value. -/
theorem run_value : θ_run defs (onTc (τ := τ) (main (F := F))) ⟨m, fun _ => 0, ρ⟩ (fun r => ∀ c : Dev nD,
    r.2.mem ((c.tc : Thread nD τ).loc main_v0) = result m c
    ∧ r.2.mem ((c.tc : Thread nD τ).loc main_arg0) = m ((c.tc : Thread nD τ).loc main_arg0)) :=
  (θ_run defs _ _).mono (fun _ h c => ⟨(h c).1.trans (final m c), (h c).2⟩) (run_result m ρ)

/-! ## The planes, of the argument -/

/-- The entry of the argument at a row, a column and a plane. -/
def entry (y : S4096x4096.Idx) (k : Fin 2) : S4096x4096x2.Idx := fun | ⟨0, _⟩ => y 0 | ⟨1, _⟩ => y 1 | ⟨2, _⟩ => k

theorem plane0_at (c : Dev nD) (y : S4096x4096.Idx) : V m c main_call0_v1 y = (m ((c.tc : Thread nD τ).loc main_arg0) : Vec F S4096x4096x2 .f32) (entry y 0) := by
  rw [V_plane0]
  refine (shapeCast_apply _ _ y (fun | ⟨0, _⟩ => y 0 | ⟨1, _⟩ => y 1 | ⟨2, _⟩ => ⟨0, Nat.one_pos⟩ : S4096x4096x1.Idx) ?_).trans ?_
  · rw [Shape.rowMajor_val_two, Shape.rowMajor_val_three]
    show ((y 0).val * 4096 + (y 1).val) * 1 + 0 = (y 0).val * 4096 + (y 1).val
    omega
  · exact extractStridedSlice_apply _ _ _ _ _ fun a => by fin_cases a <;> first | rfl | exact (Nat.zero_add _).symm
theorem plane1_at (c : Dev nD) (y : S4096x4096.Idx) : V m c main_call0_v3 y = (m ((c.tc : Thread nD τ).loc main_arg0) : Vec F S4096x4096x2 .f32) (entry y 1) := by
  rw [V_plane1]
  refine (shapeCast_apply _ _ y (fun | ⟨0, _⟩ => y 0 | ⟨1, _⟩ => y 1 | ⟨2, _⟩ => ⟨0, Nat.one_pos⟩ : S4096x4096x1.Idx) ?_).trans ?_
  · rw [Shape.rowMajor_val_two, Shape.rowMajor_val_three]
    show ((y 0).val * 4096 + (y 1).val) * 1 + 0 = (y 0).val * 4096 + (y 1).val
    omega
  · exact extractStridedSlice_apply _ _ _ _ _ fun a => by fin_cases a <;> first | rfl | exact (Nat.zero_add _).symm

/-- The sample of an entry of the whole matrix, of the argument. -/
def sampOf (x : Vec F S4096x4096x2 .f32) (y : S4096x4096.Idx) : BitVec 32 :=
  sample (x (entry y 0)) (x (entry y 1)) (bits (BitVec.ofNat 32 ((y 0).val * 4096 + (y 1).val)))

/-- THE RESULT, entry by entry, of the argument. -/
theorem result_at (c : Dev nD) (y : S4096x4096.Idx) : (result m c : Vec F S4096x4096 .i32) y
    = if (y 0).val ≤ (y 1).val then sampOf (m ((c.tc : Thread nD τ).loc main_arg0)) y else sampOf (m ((c.tc : Thread nD τ).loc main_arg0)) (mirror y) := by
  have e : ∀ y, samp (V m c main_call0_v1) (V m c main_call0_v3) y = sampOf (m ((c.tc : Thread nD τ).loc main_arg0)) y := fun y =>
    congrArg₂ (fun p q => sample p q _) (plane0_at m c y) (plane1_at m c y)
  show (if (y 0).val ≤ (y 1).val then samp (V m c main_call0_v1) (V m c main_call0_v3) y
    else samp (V m c main_call0_v1) (V m c main_call0_v3) (mirror y)) = _
  rw [e, e]

end Cert.KernelIdeal.Sym

end
-- ==== Proof.ReferenceIdeal.Point.lean ====
/- The reference's result, entry by entry. -/
module

public import proofs.«01_k».proof.Proof.ReferenceIdeal.Value
public import proofs.«01_k».proof.Proof.Words
public import Idealize.ShloMosaic.Lib.IdealHost
public import Idealize.ShloMosaic.Lib.Pipeline.Value

@[expose] public section

set_option maxRecDepth 16384

noncomputable section

namespace Cert.ReferenceIdeal.Sym

open Idealize.ShloMosaic Idealize.ShloMosaic.TcCoe Idealize.ShloMosaic.StableHlo
open Cert.ReferenceIdeal.Gen Cert.Words

variable {F : FTy → Type} [FloatOps F]

/-! ## The two words drawn -/

/-- The two arrays at an entry. -/
def pick (y : S4096x4096.Idx) (s : Words F × Words F) : BitVec 32 × BitVec 32 := (s.1 y, s.2 y)

theorem mixV_at (y : S4096x4096.Idx) (r q : BitVec 32) (hr : r.toNat < 32) (hq : q.toNat < 32) (s : Words F × Words F) :
    pick (F := F) y (mixV (F := F) r q s) = mix r q (pick (F := F) y s) := by
  show ((s.1 y + s.2 y : BitVec 32), (s.1 y + s.2 y : BitVec 32) ^^^ (IntOp.shli .host (s.2 y) r ||| IntOp.shrui .host (s.2 y) q)) = _
  rw [shli_of_lt _ _ _ hr, shrui_of_lt _ _ _ hq, BitVec.xor_comm]
  rfl

theorem injV_at (y : S4096x4096.Idx) (k k' n : BitVec 32) (s : Words F × Words F) :
    pick (F := F) y (injV (F := F) (constantI S_ 32 k) (constantI S_ 32 k') n s) = inj k k' n (pick (F := F) y s) := rfl

/-- The rounds at an entry, of a key of known words. -/
theorem drawV_at (y : S4096x4096.Idx) (c : Words F × Words F) :
    pick (F := F) y (drawV (F := F) (constantI S_ 32 0#32) (constantI S_ 32 1#32) c)
      = inj 466688987#32 0#32 5#32 (four (inj 1#32 466688987#32 4#32 (four' (inj 0#32 1#32 3#32 (four (inj 466688987#32 0#32 2#32 (four'
        (inj 1#32 466688987#32 1#32 (four (c.1 y + 0#32, c.2 y + 1#32)))))))))) := by
  have hk : key3 (F := F) (constantI S_ 32 0#32) (constantI S_ 32 1#32) = constantI S_ 32 466688987#32 :=
    funext fun _ => show (0#32 ^^^ 1#32) ^^^ 466688986#32 = 466688987#32 by decide
  unfold drawV
  simp only [hk]
  rw [injV_at, mixV_at y _ _ (by decide) (by decide), mixV_at y _ _ (by decide) (by decide), mixV_at y _ _ (by decide) (by decide), mixV_at y _ _ (by decide) (by decide),
    injV_at, mixV_at y _ _ (by decide) (by decide), mixV_at y _ _ (by decide) (by decide), mixV_at y _ _ (by decide) (by decide), mixV_at y _ _ (by decide) (by decide),
    injV_at, mixV_at y _ _ (by decide) (by decide), mixV_at y _ _ (by decide) (by decide), mixV_at y _ _ (by decide) (by decide), mixV_at y _ _ (by decide) (by decide),
    injV_at, mixV_at y _ _ (by decide) (by decide), mixV_at y _ _ (by decide) (by decide), mixV_at y _ _ (by decide) (by decide), mixV_at y _ _ (by decide) (by decide),
    injV_at, mixV_at y _ _ (by decide) (by decide), mixV_at y _ _ (by decide) (by decide), mixV_at y _ _ (by decide) (by decide), mixV_at y _ _ (by decide) (by decide)]
  rfl

/-- The key's two words are 0 and 1. -/
theorem key_first : firstV (F := F) (keyV (F := F)) = constantI S_ 32 0#32 := by
  funext j
  have h : ∀ j : S_.Idx, shapeCast S_ (extractStridedSlice S1 ![0] (concatenate S2 0 [⟨S1, broadcastInDim S1 ![] bcast_S_S1 (Host.shrui (constantI S_ 32 1#32) (constantI S_ 32 32#32))⟩,
    ⟨S1, broadcastInDim S1 ![] bcast_S_S1 (andi (constantI S_ 32 1#32) (constantI S_ 32 4294967295#32))⟩] concatenates_S1_S1_S2_d0) slices_S2_S1_0) shapeCasts_S1_S_ j = 0#32 := by decide +kernel
  exact h j
theorem key_second : secondV (F := F) (keyV (F := F)) = constantI S_ 32 1#32 := by
  funext j
  have h : ∀ j : S_.Idx, shapeCast S_ (extractStridedSlice S1 ![1] (concatenate S2 0 [⟨S1, broadcastInDim S1 ![] bcast_S_S1 (Host.shrui (constantI S_ 32 1#32) (constantI S_ 32 32#32))⟩,
    ⟨S1, broadcastInDim S1 ![] bcast_S_S1 (andi (constantI S_ 32 1#32) (constantI S_ 32 4294967295#32))⟩] concatenates_S1_S1_S2_d0) slices_S2_S1_1) shapeCasts_S1_S_ j = 1#32 := by decide +kernel
  exact h j

/-- An entry's place, rows first. -/
def at' (y : S4096x4096.Idx) : ℕ := (y 0).val * 4096 + (y 1).val

theorem at_lt (y : S4096x4096.Idx) : at' y < 16777216 := by
  have h0 : (y 0).val < 4096 := (y 0).isLt
  have h1 : (y 1).val < 4096 := (y 1).isLt
  unfold at'; omega

/-- The count of an entry is its place. -/
theorem count_at (y : S4096x4096.Idx) : countV y = BitVec.ofNat 64 (at' y) := by
  show 4096#64 * BitVec.ofNat 64 (y 0).val + 1#64 * BitVec.ofNat 64 (y 1).val = _
  unfold at'
  rw [BitVec.ofNat_add, BitVec.ofNat_mul, BitVec.one_mul, BitVec.mul_comm]

theorem low_at (y : S4096x4096.Idx) : lowV (F := F) y = BitVec.ofNat 32 (at' y) := by
  show BitVec.setWidth 32 (countV y) = _
  have h := at_lt y
  rw [count_at]
  apply BitVec.eq_of_toNat_eq
  simp only [BitVec.toNat_setWidth, BitVec.toNat_ofNat]
  omega

theorem high_at (y : S4096x4096.Idx) : highV (F := F) y = 0#32 := by
  show BitVec.setWidth 32 (IntOp.shrui .host (countV y) 32#64) = _
  have h := at_lt y
  rw [count_at, shrui_of_lt _ _ _ (by decide)]
  apply BitVec.eq_of_toNat_eq
  simp only [BitVec.toNat_setWidth, BitVec.ushiftRight_eq', BitVec.toNat_ushiftRight, BitVec.toNat_ofNat, Nat.shiftRight_eq_div_pow]
  rw [show 32 % 2 ^ 64 = 32 from rfl]
  omega

/-- The two words drawn for an entry are those drawn for its place. -/
theorem drawn_at (y : S4096x4096.Idx) : pick (F := F) y (drawnV (F := F)) = draw (BitVec.ofNat 32 (at' y)) := by
  unfold drawnV
  rw [key_first, key_second, drawV_at]
  show inj _ _ _ (four (inj _ _ _ (four' (inj _ _ _ (four (inj _ _ _ (four' (inj _ _ _ (four (highV (F := F) y + 0#32, lowV (F := F) y + 1#32)))))))))) = _
  rw [high_at, low_at]
  rfl

/-- The number drawn for an entry. -/
theorem num_at (y : S4096x4096.Idx) : numV (F := F) (drawnV (F := F)) y = FloatOps.ofBits .f32 (bits (BitVec.ofNat 32 (at' y))) := by
  show FloatOps.ofBits .f32 (IntOp.shrui .host ((pick (F := F) y (drawnV (F := F))).1 ^^^ (pick (F := F) y (drawnV (F := F))).2) 9#32 ||| 1065353216#32) = _
  rw [drawn_at, shrui_of_lt _ _ _ (by decide)]
  rfl

/-! ## The upper part and its mirror image -/

/-- The entry mirrored in the diagonal. -/
def mirror (y : S4096x4096.Idx) : S4096x4096.Idx := fun | ⟨0, _⟩ => y 1 | ⟨1, _⟩ => y 0

/-- A small number's word, read with its sign, is the number. -/
theorem small_toInt {n : ℕ} (h : n < 4096) : (BitVec.ofNat 32 n).toInt = n := by
  have e : (BitVec.ofNat 32 n).toNat = n := by rw [BitVec.toNat_ofNat]; exact Nat.mod_eq_of_lt (by omega)
  rw [BitVec.toInt_eq_toNat_of_lt (by omega), e]

/-- From the diagonal upwards. -/
theorem tri_at (x : Words F) (y : S4096x4096.Idx) : triV (F := F) 4294967295#32 x y = if (y 0).val ≤ (y 1).val then x y else 0#32 := by
  have h0 : (y 0).val < 4096 := (y 0).isLt
  have h1 : (y 1).val < 4096 := (y 1).isLt
  show Scalar.select (IntOp.cmpi .sge (BitVec.ofNat 32 (y 0).val + 4294967295#32) (BitVec.ofNat 32 (y 1).val)) (0#32) (x y) = _
  have e : IntOp.cmpi .sge (BitVec.ofNat 32 (y 0).val + 4294967295#32) (BitVec.ofNat 32 (y 1).val) = if (y 0).val ≤ (y 1).val then 0#1 else 1#1 := by
    have a1 : (BitVec.ofNat 32 (y 1).val).toInt = (y 1).val := small_toInt (by omega)
    have a0 : (BitVec.ofNat 32 (y 0).val + 4294967295#32).toInt = (y 0).val - 1 := by
      rw [BitVec.toInt_add, small_toInt (by omega), show (4294967295#32).toInt = -1 by decide]
      exact Int.bmod_eq_of_le (by omega) (by omega)
    show BitVec.ofBool (BitVec.sle _ _) = _
    unfold BitVec.sle
    rw [a0, a1]
    split
    · rw [decide_eq_false (by omega)]; rfl
    · rw [decide_eq_true (by omega)]; rfl
  rw [e]
  unfold Scalar.select
  split <;> simp_all

/-- Above the diagonal. -/
theorem triS_at (x : Words F) (y : S4096x4096.Idx) : triV (F := F) 0#32 x y = if (y 0).val < (y 1).val then x y else 0#32 := by
  have h0 : (y 0).val < 4096 := (y 0).isLt
  have h1 : (y 1).val < 4096 := (y 1).isLt
  show Scalar.select (IntOp.cmpi .sge (BitVec.ofNat 32 (y 0).val + 0#32) (BitVec.ofNat 32 (y 1).val)) (0#32) (x y) = _
  have e : IntOp.cmpi .sge (BitVec.ofNat 32 (y 0).val + 0#32) (BitVec.ofNat 32 (y 1).val) = if (y 0).val < (y 1).val then 0#1 else 1#1 := by
    have a1 : (BitVec.ofNat 32 (y 1).val).toInt = (y 1).val := small_toInt (by omega)
    have a0 : (BitVec.ofNat 32 (y 0).val).toInt = (y 0).val := small_toInt (by omega)
    show BitVec.ofBool (BitVec.sle _ _) = _
    unfold BitVec.sle
    rw [BitVec.add_zero, a0, a1]
    split
    · rw [decide_eq_false (by omega)]; rfl
    · rw [decide_eq_true (by omega)]; rfl
  rw [e]
  unfold Scalar.select
  split <;> simp_all

/-- The result, of the samples. -/
theorem result_at (x : Probs F) (y : S4096x4096.Idx) : resultV (F := F) x y
    = if (y 0).val ≤ (y 1).val then sampleV (F := F) x y else sampleV (F := F) x (mirror y) := by
  show (triV (F := F) 4294967295#32 (sampleV (F := F) x) y + transpose S4096x4096 [1, 0] (triV (F := F) 0#32 (sampleV (F := F) x)) transposes_S4096x4096_S4096x4096_1_0 y : BitVec 32) = _
  rw [transpose_apply _ _ _ y (mirror y) (fun b => by fin_cases b <;> rfl), tri_at, triS_at]
  have q0 : (mirror y 0).val = (y 1).val := rfl
  have q1 : (mirror y 1).val = (y 0).val := rfl
  rw [q0, q1]
  by_cases h : (y 0).val ≤ (y 1).val
  · rw [if_pos h, if_neg (by omega), if_pos h]; exact BitVec.add_zero _
  · rw [if_neg h, if_pos (by omega), if_neg h]; exact BitVec.zero_add _

/-! ## The samples, with exact numbers -/

/-- The bits below the exponent's alone are free. -/
theorem ieee_one (b : BitVec 32) : ∃ r : ℝ, 1 ≤ r ∧ Ideal.ofBits .f32 ((b >>> 9#32) ||| 1065353216#32) = (r : EReal) := by
  have hs : ((b >>> 9#32) ||| 1065353216#32).extractLsb' (8 + 23) 1 = 0#1 := by
    ext i hi
    have : i = 0 := by omega
    subst this
    simp [BitVec.getElem_extractLsb']
  have he : ((b >>> 9#32) ||| 1065353216#32).extractLsb' 23 8 = 127#8 := by
    ext i hi
    interval_cases i <;> simp [BitVec.getElem_extractLsb'] <;> decide
  refine ⟨(1 * (2 ^ 23 + (((b >>> 9#32) ||| 1065353216#32).extractLsb' 0 23).toNat : ℕ) * (2 : ℝ) ^ ((127 : ℤ) - (2 ^ (8 - 1) - 1) - 23) : ℝ), ?_, ?_⟩
  · have h2 : (2 : ℝ) ^ ((127 : ℤ) - (2 ^ (8 - 1) - 1) - 23) = 1 / 2 ^ 23 := by norm_num
    rw [h2]
    push_cast
    have : (0 : ℝ) ≤ ((((b >>> 9#32) ||| 1065353216#32).extractLsb' 0 23).toNat : ℝ) := Nat.cast_nonneg _
    rw [one_mul, mul_one_div, le_div_iff₀ (by positivity)]
    linarith
  · show Ideal.ieee 8 23 _ = _
    unfold Ideal.ieee
    rw [hs, he]
    rfl

/-- An entry of the argument: a row, a column, a plane. -/
def entry (y : S4096x4096.Idx) (k : Fin 2) : S4096x4096x2.Idx := fun | ⟨0, _⟩ => y 0 | ⟨1, _⟩ => y 1 | ⟨2, _⟩ => k

/-- The quotient at an entry. -/
theorem den_at (x : Probs Ideal) (y : S4096x4096.Idx) : denV (F := Ideal) x y
    = Ideal.div (x (entry y 1)) (x (entry y 0) + x (entry y 1)) := by
  have hR : S4096x4096x2.Reduces [2] S4096x4096 := by decide
  have hs : Host.reduceAdd (F := Ideal) (φ := .f32) x (constant S_ .f32 0x00000000#32) reducesTo_S4096x4096x2_S4096x4096_d2 h_S_ y = (x (entry y 0) : EReal) + (x (entry y 1) : EReal) := by
    rw [ValueIdx.hostReduceAdd_apply, Ideal.hostReduceAdd_single _ hR]
    have e : ∀ k : Fin 2, hR.lift y k = entry y k := fun k => funext fun a => Fin.ext (by fin_cases a <;> rfl)
    have z : (constant (F := Ideal) S_ .f32 0x00000000#32 (Shape.Idx.first h_S_) : EReal) = 0 := Ideal.ofBits_zero_f32
    rw [z, zero_add]
    refine (Fin.sum_univ_two (f := fun k : Fin 2 => (x (hR.lift y k) : EReal))).trans ?_
    rw [e, e]
  have hn : shapeCast S4096x4096 (extractStridedSlice S4096x4096x1 ![0, 0, 1] x slices_S4096x4096x2_S4096x4096x1_0_0_1) shapeCasts_S4096x4096x1_S4096x4096 y = x (entry y 1) := by
    refine (shapeCast_apply _ _ y (fun | ⟨0, _⟩ => y 0 | ⟨1, _⟩ => y 1 | ⟨2, _⟩ => ⟨0, Nat.one_pos⟩ : S4096x4096x1.Idx) ?_).trans ?_
    · rw [Shape.rowMajor_val_two, Shape.rowMajor_val_three]
      show ((y 0).val * 4096 + (y 1).val) * 1 + 0 = (y 0).val * 4096 + (y 1).val
      omega
    · exact extractStridedSlice_apply _ _ _ _ _ fun a => by fin_cases a <;> first | rfl | exact (Nat.zero_add _).symm
  unfold denV
  rw [ValueIdx.hostDivf_apply, hs, hn]

/-- Bringing a number of at least 0 to the range from 0 to 1 leaves it. -/
theorem range_eq (f z o : Ideal .f32) (hz : z = (0 : EReal)) (ho : o = (1 : EReal)) (h : (0 : EReal) ≤ FloatOps.subf f o) :
    FloatOps.maximumf z (FloatOps.addf (FloatOps.mulf (FloatOps.subf f o) (FloatOps.subf o z)) z) = FloatOps.subf f o := by
  subst hz ho
  show max (0 : EReal) ((FloatOps.subf f (1 : EReal) : EReal) * (1 - 0) + 0) = _
  rw [sub_zero, mul_one, add_zero]
  exact max_eq_right h

/-- The range, at an entry. -/
theorem range_at (f : Nums F) (y : S4096x4096.Idx) : uniV (F := F) (zeroV (F := F)) (oneV (F := F)) f y
    = FloatOps.maximumf (FloatOps.ofBits .f32 0x00000000#32) (FloatOps.addf (FloatOps.mulf (FloatOps.subf (f y) (FloatOps.ofBits .f32 0x3F800000#32))
      (FloatOps.subf (FloatOps.ofBits .f32 0x3F800000#32) (FloatOps.ofBits .f32 0x00000000#32))) (FloatOps.ofBits .f32 0x00000000#32)) := rfl

/-- The number drawn is at least 1. -/
theorem num_ge (i : BitVec 32) : (0 : EReal) ≤ (FloatOps.subf (FloatOps.ofBits .f32 (bits i)) (FloatOps.ofBits .f32 0x3F800000#32) : Ideal .f32) := by
  obtain ⟨r, hr, e⟩ := ieee_one ((draw i).1 ^^^ (draw i).2)
  have e1 : (FloatOps.ofBits .f32 (bits i) : Ideal .f32) = (r : EReal) := e
  have e2 : (FloatOps.ofBits .f32 0x3F800000#32 : Ideal .f32) = ((1 : ℝ) : EReal) := Ideal.ofBits_one_f32
  rw [e1, e2]
  show (0 : EReal) ≤ (r : EReal) - ((1 : ℝ) : EReal)
  rw [← EReal.coe_sub]
  exact EReal.coe_nonneg.mpr (by linarith)

/-- The number at an entry, in the range. -/
theorem uni_at (y : S4096x4096.Idx) : uniV (F := Ideal) (zeroV (F := Ideal)) (oneV (F := Ideal)) (numV (F := Ideal) (drawnV (F := Ideal))) y
    = (FloatOps.subf (FloatOps.ofBits .f32 (bits (BitVec.ofNat 32 (at' y)))) (FloatOps.ofBits .f32 0x3F800000#32) : Ideal .f32) := by
  rw [range_at, num_at]
  exact range_eq _ _ _ Ideal.ofBits_zero_f32 Ideal.ofBits_one_f32 (num_ge _)

/-- THE SAMPLE at an entry. -/
theorem sample_at (x : Probs Ideal) (y : S4096x4096.Idx) : sampleV (F := Ideal) x y
    = (FloatOps.cmpf (F := Ideal) (φ := .f32) .olt (FloatOps.subf (FloatOps.ofBits .f32 (bits (BitVec.ofNat 32 ((y 0).val * 4096 + (y 1).val)))) (FloatOps.ofBits .f32 0x3F800000#32))
        (FloatOps.divf (x (entry y 1)) (FloatOps.addf (x (entry y 0)) (x (entry y 1))))).setWidth 32 :=
  congrArg (BitVec.setWidth 32) (congrArg₂ (FloatOps.cmpf (F := Ideal) (φ := .f32) .olt) (uni_at y) (den_at x y))

end Cert.ReferenceIdeal.Sym

end
-- ==== Proof.Agree.lean ====
/- Kernel and reference agree, with exact numbers: the same array, entry by entry. -/
module

public import proofs.«01_k».proof.Proof.KernelIdeal.Value
public import proofs.«01_k».proof.Proof.ReferenceIdeal.Point

@[expose] public section

set_option maxRecDepth 16384

noncomputable section

namespace Cert.Agree

open Idealize.ShloMosaic Idealize.ShloMosaic.TcCoe

/-- An entry of the argument is named alike by both. -/
theorem entry_eq (y : Cert.KernelIdeal.S4096x4096.Idx) (k : Fin 2) :
    (Cert.ReferenceIdeal.Sym.entry y k : Cert.KernelIdeal.S4096x4096x2.Idx) = Cert.KernelIdeal.Sym.entry y k :=
  funext fun a => by fin_cases a <;> rfl

/-- So is an entry mirrored in the diagonal. -/
theorem mirror_eq (y : Cert.KernelIdeal.S4096x4096.Idx) :
    (Cert.ReferenceIdeal.Sym.mirror y : Cert.KernelIdeal.S4096x4096.Idx) = Cert.KernelIdeal.Sym.mirror y :=
  funext fun a => by fin_cases a <;> rfl

/-- The samples agree. -/
theorem sample_eq (x : Cert.ReferenceIdeal.Sym.Probs Ideal) (y : Cert.KernelIdeal.S4096x4096.Idx) :
    Cert.ReferenceIdeal.Sym.sampleV (F := Ideal) x y = Cert.KernelIdeal.Sym.sampOf (F := Ideal) x y := by
  refine (Cert.ReferenceIdeal.Sym.sample_at x y).trans ?_
  rw [entry_eq, entry_eq]
  rfl

variable (m : (ℓ : Loc Cert.KernelIdeal.nD Cert.KernelIdeal.τ Cert.KernelIdeal.sig) → Buf (Elt Ideal) ℓ)

/-- THE EQUATION: of one argument, the reference's result is the kernel's. -/
theorem result_eq (c : Dev Cert.KernelIdeal.nD) (x : Cert.ReferenceIdeal.Sym.Probs Ideal)
    (h : x = m ((c.tc : Thread Cert.KernelIdeal.nD Cert.KernelIdeal.τ).loc Cert.KernelIdeal.main_arg0)) :
    Cert.ReferenceIdeal.Sym.resultV (F := Ideal) x = Cert.KernelIdeal.Sym.result (F := Ideal) m c := by
  funext y
  refine (Cert.ReferenceIdeal.Sym.result_at x y).trans (Eq.trans ?_ (Cert.KernelIdeal.Sym.result_at (F := Ideal) m c y).symm)
  rw [sample_eq, sample_eq, mirror_eq, ← h]

end Cert.Agree

end
-- ==== Proof.lean ====
/- The certificate: the claims, each from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Kernel.Frame
public import proofs.«01_k».proof.Proof.KernelIdeal.Frame
public import proofs.«01_k».proof.Proof.ReferenceIdeal.Frame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  fun m g _ => Cert.Kernel.Sym.frame (F := Bits) m g,
  fun m g _ => Cert.KernelIdeal.Sym.frame (F := Ideal) m g,
  fun m g _ => Cert.ReferenceIdeal.Sym.frame (F := Ideal) m g,
  trivial,
  fun m g m' g' _ h => ⟨fun c => Cert.KernelIdeal.Sym.result (F := Ideal) m c, Cert.KernelIdeal.Sym.run_value (F := Ideal) m g,
    (θ_run _ _ _).mono (fun _ hr c => ⟨(hr c).1.trans (Cert.Agree.result_eq m c _ (h c)), (hr c).2⟩)
      (Cert.ReferenceIdeal.Sym.run_value (F := Ideal) m' g')⟩⟩

end Cert.Proof

end
